-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v21)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v21) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v78) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)) →
    ∃ (v0 : (c : Dev Cert.LruIdeal.nD) → Buf (Elt Ideal) ((c.tc : Thread Cert.LruIdeal.nD Cert.LruIdeal.τ).loc Cert.LruIdeal.main_v42)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v42) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v105) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)) (v3 : (c : Dev Cert.QkvIdeal.nD) → Buf (Elt Ideal) ((c.tc : Thread Cert.QkvIdeal.nD Cert.QkvIdeal.τ).loc Cert.QkvIdeal.main_v3_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_v3_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v17) = v0 c
          ∧ r.2.mem ((c.tc : Thread Cert.QkvRefIdeal.nD Cert.QkvRefIdeal.τ).loc Cert.QkvRefIdeal.main_v18) = v1 c
          ∧ r.2.mem ((c.tc : Thread Cert.QkvRefIdeal.nD Cert.QkvRefIdeal.τ).loc Cert.QkvRefIdeal.main_v20) = v2 c
          ∧ r.2.mem ((c.tc : Thread Cert.QkvRefIdeal.nD Cert.QkvRefIdeal.τ).loc Cert.QkvRefIdeal.main_v14) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def Claim : Prop :=
  ∃ (hMlp : Cert.Mlp.Facts) (hMlpIdeal : Cert.MlpIdeal.Facts) (hMlpRefIdeal : Cert.MlpRefIdeal.Facts) (hLru : Cert.Lru.Facts) (hLruIdeal : Cert.LruIdeal.Facts) (hLruRefIdeal : Cert.LruRefIdeal.Facts) (hQkv : Cert.Qkv.Facts) (hQkvIdeal : Cert.QkvIdeal.Facts) (hQkvRefIdeal : Cert.QkvRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Lru (hLru := hLru)
    ∧ quiescent_LruIdeal (hLruIdeal := hLruIdeal)
    ∧ quiescent_LruRefIdeal (hLruRefIdeal := hLruRefIdeal)
    ∧ quiescent_Qkv (hQkv := hQkv)
    ∧ quiescent_QkvIdeal (hQkvIdeal := hQkvIdeal)
    ∧ quiescent_QkvRefIdeal (hQkvRefIdeal := hQkvRefIdeal)
    ∧ preserves_Mlp_MlpIdeal
    ∧ algebraic_MlpIdeal_MlpRefIdeal (hMlpIdeal := hMlpIdeal) (hMlpRefIdeal := hMlpRefIdeal)
    ∧ preserves_Lru_LruIdeal
    ∧ algebraic_LruIdeal_LruRefIdeal (hLruIdeal := hLruIdeal) (hLruRefIdeal := hLruRefIdeal)
    ∧ preserves_Qkv_QkvIdeal
    ∧ algebraic_QkvIdeal_QkvRefIdeal (hQkvIdeal := hQkvIdeal) (hQkvRefIdeal := hQkvRefIdeal)
-- ==== Mlp.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1024x512 : Shape := ⟨2, ![1024, 512]⟩
abbrev S1x512 : Shape := ⟨2, ![1, 512]⟩
abbrev S512x1024 : Shape := ⟨2, ![512, 1024]⟩
abbrev S1024x1 : Shape := ⟨2, ![1024, 1]⟩

abbrev nBuf : Space → Nat
  | .hbm => 34
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x512, .bf16⟩
  | .hbm, ⟨14, _⟩ => ⟨S16384x512, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S1x4096, .f32⟩
  | .hbm, ⟨25, _⟩ => ⟨S4096x1024, .f32⟩
  | .hbm, ⟨26, _⟩ => ⟨S4096x1024, .bf16⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x512, .bf16⟩
  | .local _ .vmem, ⟨10, _⟩ => ⟨S1024x512, .bf16⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MlpRefIdeal.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S1024x1024 : Shape := ⟨2, ![1024, 1024]⟩
abbrev S_ : Shape := ⟨0, ![]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S4096 : Shape := ⟨1, ![4096]⟩
abbrev S1x1x4096 : Shape := ⟨3, ![1, 1, 4096]⟩
abbrev S4096x1024 : Shape := ⟨2, ![4096, 1024]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8x2048x512, .f32⟩
  | .hbm, ⟨13, _⟩ => ⟨S8x2048x512, .f32⟩
  | .hbm, ⟨14, _⟩ => ⟨S8x2048x1024, .f32⟩
  | .hbm, ⟨15, _⟩ => ⟨S1024x1024, .f32⟩
  | .hbm, ⟨16, _⟩ => ⟨S8x2048x1024, .f32⟩
  | .hbm, ⟨17, _⟩ => ⟨S_, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S1024x4096, .f32⟩
  | .hbm, ⟨53, _⟩ => ⟨S8x2048x4096, .f32⟩
  | .hbm, ⟨54, _⟩ => ⟨S4096, .f32⟩
  | .hbm, ⟨55, _⟩ => ⟨S1x1x4096, .f32⟩
  | .hbm, ⟨56, _⟩ => ⟨S8x2048x4096, .f32⟩
  | .hbm, ⟨57, _⟩ => ⟨S8x2048x4096, .f32⟩
  | .hbm, ⟨58, _⟩ => ⟨S_, .f32⟩
  | .hbm, ⟨59, _⟩ => ⟨S8x2048x4096, .f32⟩
  | .hbm, ⟨60, _⟩ => ⟨S8x2048x4096, .f32⟩
  | .hbm, ⟨61, _⟩ => ⟨S8x2048x4096, .f32⟩
  | .hbm, ⟨62, _⟩ => ⟨S4096x1024, .f32⟩
  | .hbm, ⟨63, _⟩ => ⟨S8x2048x1024, .f32⟩
  | .hbm, ⟨64, _⟩ => ⟨S1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S1024, .f32⟩
  | .hbm, ⟨73, _⟩ => ⟨S1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S_, .f32⟩
  | .hbm, ⟨84, _⟩ => ⟨S8x2048, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S8x2048x1, .f32⟩
  | .hbm, ⟨95, _⟩ => ⟨S8x2048x1024, .f32⟩
  | .hbm, ⟨96, _⟩ => ⟨S8x2048x1024, .f32⟩
  | .hbm, ⟨97, _⟩ => ⟨S1x1x1024, .f32⟩
  | .hbm, ⟨98, _⟩ => ⟨S8x2048x1024, .f32⟩
  | .hbm, ⟨99, _⟩ => ⟨S8x2048x1024, .f32⟩
  | .hbm, ⟨100, _⟩ => ⟨S1x1x1024, .f32⟩
  | .hbm, ⟨101, _⟩ => ⟨S8x2048x1024, .f32⟩
  | .hbm, ⟨102, _⟩ => ⟨S8x2048x1024, .f32⟩
  | .hbm, ⟨103, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Lru.lean ====
abbrev S8x2048x1024 : Shape := ⟨3, ![8, 2048, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x1024x1024 : Shape := ⟨3, ![1, 1024, 1024]⟩
abbrev S1024x1024 : Shape := ⟨2, ![1024, 1024]⟩
abbrev S4x512 : Shape := ⟨2, ![4, 512]⟩
abbrev S512 : Shape := ⟨1, ![512]⟩
abbrev S8x64x64 : Shape := ⟨3, ![8, 64, 64]⟩
abbrev S4x4 : Shape := ⟨2, ![4, 4]⟩
abbrev S_ : Shape := ⟨0, ![]⟩
abbrev S2x4x64x64 : Shape := ⟨4, ![2, 4, 64, 64]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S8x2048x512 : Shape := ⟨3, ![8, 2048, 512]⟩
abbrev S1x256x1024 : Shape := ⟨3, ![1, 256, 1024]⟩
abbrev S1x256x512 : Shape := ⟨3, ![1, 256, 512]⟩
abbrev S264x512 : Shape := ⟨2, ![264, 512]⟩
abbrev S256x512 : Shape := ⟨2, ![256, 512]⟩
abbrev S8x512 : Shape := ⟨2, ![8, 512]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 54
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2560, .f32⟩
  | .hbm, ⟨2, _⟩ => ⟨S1x4x512, .f32⟩
  | .hbm, ⟨3, _⟩ => ⟨S1x512, .f32⟩
  | .hbm, ⟨4, _⟩ => ⟨S1x8x64x64, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x512, .f32⟩
  | .hbm, ⟨9, _⟩ => ⟨S1x1024x1024, .f32⟩
  | .hbm, ⟨10, _⟩ => ⟨S1024x1024, .f32⟩
  | .hbm, ⟨11, _⟩ => ⟨S1024x1024, .bf16⟩
  | .hbm, ⟨12, _⟩ => ⟨S4x512, .f32⟩
  | .hbm, ⟨13, _⟩ => ⟨S512, .f32⟩
  | .hbm, ⟨14, _⟩ => ⟨S1x512, .f32⟩
  | .hbm, ⟨15, _⟩ => ⟨S8x64x64, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S2x4x64x64, .f32⟩
  | .hbm, ⟨24, _⟩ => ⟨S2x4x64x1x64, .f32⟩
  | .hbm, ⟨25, _⟩ => ⟨S1x4x1x4x1, .f32⟩
  | .hbm, ⟨26, _⟩ => ⟨S2x4x64x4x64, .f32⟩
  | .hbm, ⟨27, _⟩ => ⟨S2x4x64x4x64, .f32⟩
  | .hbm, ⟨28, _⟩ => ⟨S2x4x64x4x64, .f32⟩
  | .hbm, ⟨29, _⟩ => ⟨S2x256x256, .f32⟩
  | .hbm, ⟨30, _⟩ => ⟨S2x256x256, .bf16⟩
  | .hbm, ⟨31, _⟩ => ⟨S512, .f32⟩
  | .hbm, ⟨32, _⟩ => ⟨S1x512, .f32⟩
  | .hbm, ⟨33, _⟩ => ⟨S8x64x64, .f32⟩
  | .hbm, ⟨34, _⟩ => ⟨S4x4, .i32⟩
  | .hbm, ⟨35, _⟩ => ⟨S4x4, .i32⟩
  | .hbm, ⟨36, _⟩ => ⟨S_, .i32⟩
  | .hbm, ⟨37, _⟩ => ⟨S4x4, .i32⟩
  | .hbm, ⟨38, _⟩ => ⟨S4x4, .i32⟩
  | .hbm, ⟨39, _⟩ => ⟨S4x4, .i1⟩
  | .hbm, ⟨40, _⟩ => ⟨S4x4, .f32⟩
  | .hbm, ⟨41, _⟩ => ⟨S2x4x64x64, .f32⟩
  | .hbm, ⟨42, _⟩ => ⟨S2x4x64x1x64, .f32⟩
  | .hbm, ⟨43, _⟩ => ⟨S1x4x1x4x1, .f32⟩
  | .hbm, ⟨44, _⟩ => ⟨S2x4x64x4x64, .f32⟩
  | .hbm, ⟨45, _⟩ => ⟨S2x4x64x4x64, .f32⟩
  | .hbm, ⟨46, _⟩ => ⟨S2x4x64x4x64, .f32⟩
  | .hbm, ⟨47, _⟩ => ⟨S2x256x256, .f32⟩
  | .hbm, ⟨48, _⟩ => ⟨S2x256x256, .bf16⟩
  | .hbm, ⟨49, _⟩ => ⟨S512, .f32⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S8x2048x512, .bf16⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S4x512, .f32⟩
  | .local _ .vmem, ⟨4, _⟩ => ⟨S1x512, .f32⟩
  | .local _ .vmem, ⟨5, _⟩ => ⟨S2x256x256, .bf16⟩
  | .local _ .vmem, ⟨6, _⟩ => ⟨S1x512, .f32⟩
  | .local _ .vmem, ⟨7, _⟩ => ⟨S2x256x256, .bf16⟩
  | .local _ .vmem, ⟨8, _⟩ => ⟨S1x512, .f32⟩
  | .local _ .vmem, ⟨9, _⟩ => ⟨S1x512, .f32⟩
  | .local _ .vmem, ⟨10, _⟩ => ⟨S1x256x512, .bf16⟩
  | .local _ .vmem, ⟨11, _⟩ => ⟨S1x256x512, .bf16⟩
  | .local _ .vmem, ⟨12, _⟩ => ⟨S264x512, .f32⟩
  | .local _ .vmem, ⟨13, _⟩ => ⟨S256x512, .f32⟩
  | .local _ .vmem, ⟨14, _⟩ => ⟨S256x512, .f32⟩
  | .local _ .vmem, ⟨15, _⟩ => ⟨S8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_53 : BitVec 32 := 0#32
  let c32_i32 : BitVec 32 := 32#32
  let v108 : BitVec 32 := Scalar.addi c0_i32_53 c32_i32
  let c1_i32 : BitVec 32 := 1#32
  ⟨c0_i32_53, v108, c1_i32⟩
def k0_mult1 (k0_t1 : Fin k0_t1_loop.trips) : BitVec 32 :=
  let c0_i32_53 : BitVec 32 := 0#32
  let c1_i32 : BitVec 32 := 1#32
  let arg16 : BitVec 32 := Scf.iv c0_i32_53 c1_i32 k0_t1
  let c8_i32 : BitVec 32 := 8#32
  let v132 : BitVec 32 := Scalar.muli arg16 c8_i32
  v132
def k0_off1 (k0_t1 : Fin k0_t1_loop.trips) : Fin 2 → Nat :=
  let c0_i32_53 : BitVec 32 := 0#32
  let c1_i32 : BitVec 32 := 1#32
  let arg16 : BitVec 32 := Scf.iv c0_i32_53 c1_i32 k0_t1
  let c8_i32 : BitVec 32 := 8#32
  let v132 : BitVec 32 := Scalar.muli arg16 c8_i32
  let v133 : BitVec 32 := v132
  let v134 : Index := Scalar.indexCast v133
  let c0_66 : Index := 0#32
  ![v134.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LruRefIdeal.lean ====
abbrev S8x2048x1024 : Shape := ⟨3, ![8, 2048, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x1024x512 : Shape := ⟨3, ![1, 1024, 512]⟩
abbrev S1024x512 : Shape := ⟨2, ![1024, 512]⟩
abbrev S8x2048x512 : Shape := ⟨3, ![8, 2048, 512]⟩
abbrev S4x512 : Shape := ⟨2, ![4, 512]⟩
abbrev S512 : Shape := ⟨1, ![512]⟩
abbrev S_ : Shape := ⟨0, ![]⟩
abbrev S8x2051x512 : Shape := ⟨3, ![8, 2051, 512]⟩
abbrev S1x1x512 : Shape := ⟨3, ![1, 1, 512]⟩
abbrev S8x64x64 : Shape := ⟨3, ![8, 64, 64]⟩
abbrev S8x2048x8x64 : Shape := ⟨4, ![8, 2048, 8, 64]⟩
abbrev S8x64x8x2048 : Shape := ⟨4, ![8, 64, 8, 2048]⟩
abbrev S8x512 : Shape := ⟨2, ![8, 512]⟩
abbrev S2048x8x512 : Shape := ⟨3, ![2048, 8, 512]⟩
abbrev S1x8x512 : Shape := ⟨3, ![1, 8, 512]⟩

abbrev nBuf : Space → Nat
  | .hbm => 165
  | .vmem => 0
  | .smem => 0
  | _ => 0

abbrev hbmTy0_0 (i : Nat) : BufTy := match i % 128 with
  | 0 => ⟨S8x2048x1024, .f32⟩
  | 1 => ⟨S1x1024x2560, .f32⟩
  | 2 => ⟨S1x4x512, .f32⟩
  | 3 => ⟨S1x512, .f32⟩
  | 4 => ⟨S1x8x64x64, .f32⟩
  | 5 => ⟨S1x512, .f32⟩
  | 6 => ⟨S1x8x64x64, .f32⟩
  | 7 => ⟨S1x512, .f32⟩
  | 8 => ⟨S1x512, .f32⟩
  | 9 => ⟨S1x1024x512, .f32⟩
  | 10 => ⟨S1024x512, .f32⟩
  | 11 => ⟨S8x2048x512, .f32⟩
  | 12 => ⟨S4x512, .f32⟩
  | 13 => ⟨S512, .f32⟩
  | 14 => ⟨S_, .i32⟩
  | 15 => ⟨S_, .f32⟩
  | 16 => ⟨S8x2051x512, .f32⟩
  | 17 => ⟨S8x2048x512, .f32⟩
  | 18 => ⟨S1x512, .f32⟩
  | 19 => ⟨S512, .f32⟩
  | 20 => ⟨S1x1x512, .f32⟩
  | 21 => ⟨S8x2048x512, .f32⟩
  | 22 => ⟨S8x2048x512, .f32⟩
  | 23 => ⟨S1x1x512, .f32⟩
  | 24 => ⟨S8x2048x512, .f32⟩
  | 25 => ⟨S8x2048x512, .f32⟩
  | 26 => ⟨S8x2048x512, .f32⟩
  | 27 => ⟨S1x512, .f32⟩
  | 28 => ⟨S512, .f32⟩
  | 29 => ⟨S1x1x512, .f32⟩
  | 30 => ⟨S8x2048x512, .f32⟩
  | 31 => ⟨S8x2048x512, .f32⟩
  | 32 => ⟨S8x2048x512, .f32⟩
  | 33 => ⟨S8x2048x512, .f32⟩
  | 34 => ⟨S1x512, .f32⟩
  | 35 => ⟨S512, .f32⟩
  | 36 => ⟨S1x1x512, .f32⟩
  | 37 => ⟨S8x2048x512, .f32⟩
  | 38 => ⟨S8x2048x512, .f32⟩
  | 39 => ⟨S8x2048x512, .f32⟩
  | 40 => ⟨S8x2048x512, .f32⟩
  | 41 => ⟨S1x512, .f32⟩
  | 42 => ⟨S512, .f32⟩
  | 43 => ⟨S1x1x512, .f32⟩
  | 44 => ⟨S8x2048x512, .f32⟩
  | 45 => ⟨S8x2048x512, .f32⟩
  | 46 => ⟨S8x2048x512, .f32⟩
  | 47 => ⟨S8x64x64, .f32⟩
  | 48 => ⟨S512, .f32⟩
  | 49 => ⟨S8x64x64, .f32⟩
  | 50 => ⟨S512, .f32⟩
  | 51 => ⟨S512, .f32⟩
  | 52 => ⟨S8x2048x8x64, .f32⟩
  | 53 => ⟨S8x64x8x2048, .f32⟩
  | 54 => ⟨S8x2048x8x64, .f32⟩
  | 55 => ⟨S8x2048x512, .f32⟩
  | 56 => ⟨S1x1x512, .f32⟩
  | 57 => ⟨S8x2048x512, .f32⟩
  | 58 => ⟨S8x2048x512, .f32⟩
  | 59 => ⟨S8x2048x512, .f32⟩
  | 60 => ⟨S8x2048x512, .f32⟩
  | 61 => ⟨S_, .f32⟩
  | 62 => ⟨S8x2048x512, .f32⟩
  | 63 => ⟨S8x2048x512, .f32⟩
  | 64 => ⟨S_, .f32⟩
  | 65 => ⟨S8x2048x512, .f32⟩
  | 66 => ⟨S8x2048x512, .f32⟩
  | 67 => ⟨S8x2048x8x64, .f32⟩
  | 68 => ⟨S8x64x8x2048, .f32⟩
  | 69 => ⟨S8x2048x8x64, .f32⟩
  | 70 => ⟨S8x2048x512, .f32⟩
  | 71 => ⟨S1x1x512, .f32⟩
  | 72 => ⟨S8x2048x512, .f32⟩
  | 73 => ⟨S8x2048x512, .f32⟩
  | 74 => ⟨S8x2048x512, .f32⟩
  | 75 => ⟨S8x2048x512, .f32⟩
  | 76 => ⟨S_, .f32⟩
  | 77 => ⟨S8x2048x512, .f32⟩
  | 78 => ⟨S8x2048x512, .f32⟩
  | 79 => ⟨S_, .f32⟩
  | 80 => ⟨S8x2048x512, .f32⟩
  | 81 => ⟨S8x2048x512, .f32⟩
  | 82 => ⟨S_, .f32⟩
  | 83 => ⟨S8x2048x512, .f32⟩
  | 84 => ⟨S8x2048x512, .f32⟩
  | 85 => ⟨S512, .f32⟩
  | 86 => ⟨S_, .f32⟩
  | 87 => ⟨S512, .f32⟩
  | 88 => ⟨S512, .f32⟩
  | 89 => ⟨S512, .f32⟩
  | 90 => ⟨S512, .f32⟩
  | 91 => ⟨S512, .i1⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S1x1x512, .f32⟩
  | 101 => ⟨S8x2048x512, .f32⟩
  | 102 => ⟨S8x2048x512, .f32⟩
  | 103 => ⟨S8x2048x512, .f32⟩
  | 104 => ⟨S_, .f32⟩
  | 105 => ⟨S8x2048x512, .f32⟩
  | 106 => ⟨S8x2048x512, .f32⟩
  | 107 => ⟨S8x2048x512, .f32⟩
  | 108 => ⟨S8x2048x512, .f32⟩
  | 109 => ⟨S8x2048x512, .f32⟩
  | 110 => ⟨S8x2048x512, .f32⟩
  | 111 => ⟨S8x2048x512, .f32⟩
  | 112 => ⟨S_, .f32⟩
  | 113 => ⟨S8x512, .f32⟩
  | 114 => ⟨S2048x8x512, .f32⟩
  | 115 => ⟨S2048x8x512, .f32⟩
  | 116 => ⟨S_, .f32⟩
  | 117 => ⟨S2048x8x512, .f32⟩
  | 118 => ⟨S_, .i32⟩
  | 119 => ⟨S2048x8x512, .f32⟩
  | 120 => ⟨S2048x8x512, .f32⟩
  | 121 => ⟨S_, .i32⟩
  | 122 => ⟨S8x512, .f32⟩
  | 123 => ⟨S2048x8x512, .f32⟩
  | 124 => ⟨S_, .i32⟩
  | 125 => ⟨S_, .i1⟩
  | 126 => ⟨S_, .i32⟩
  | 127 => ⟨S_, .i32⟩
  | _ => ⟨S8x2048x1024, .f32⟩

abbrev hbmTy0_1 (i : Nat) : BufTy := match i % 128 with
  | 0 => ⟨S1x8x512, .f32⟩
  | 1 => ⟨S8x512, .f32⟩
  | 2 => ⟨S_, .i32⟩
  | 3 => ⟨S_, .i32⟩
  | 4 => ⟨S1x8x512, .f32⟩
  | 5 => ⟨S8x512, .f32⟩
  | 6 => ⟨S8x512, .f32⟩
  | 7 => ⟨S8x512, .f32⟩
  | 8 => ⟨S1x8x512, .f32⟩
  | 9 => ⟨S_, .i32⟩
  | 10 => ⟨S_, .i32⟩
  | 11 => ⟨S2048x8x512, .f32⟩
  | 12 => ⟨S_, .i32⟩
  | 13 => ⟨S_, .i32⟩
  | 14 => ⟨S8x2048x512, .f32⟩
  | 15 => ⟨S1x1024x512, .f32⟩
  | 16 => ⟨S1024x512, .f32⟩
  | 17 => ⟨S8x2048x512, .f32⟩
  | 18 => ⟨S8x2048x512, .f32⟩
  | 19 => ⟨S8x2048x512, .f32⟩
  | 20 => ⟨S_, .f32⟩
  | 21 => ⟨S8x2048x512, .f32⟩
  | 22 => ⟨S8x2048x512, .f32⟩
  | 23 => ⟨S8x2048x512, .f32⟩
  | 24 => ⟨S_, .f32⟩
  | 25 => ⟨S8x2048x512, .f32⟩
  | 26 => ⟨S8x2048x512, .f32⟩
  | 27 => ⟨S8x2048x512, .f32⟩
  | 28 => ⟨S_, .f32⟩
  | 29 => ⟨S8x2048x512, .f32⟩
  | 30 => ⟨S8x2048x512, .f32⟩
  | 31 => ⟨S_, .f32⟩
  | 32 => ⟨S8x2048x512, .f32⟩
  | 33 => ⟨S8x2048x512, .f32⟩
  | 34 => ⟨S8x2048x512, .f32⟩
  | 35 => ⟨S8x2048x512, .f32⟩
  | 36 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst : Ref sig .tc := ⟨.hbm, 61, rfl⟩
abbrev main_v50 : Ref sig .tc := ⟨.hbm, 62, rfl⟩
abbrev main_v51 : Ref sig .tc := ⟨.hbm, 63, rfl⟩
abbrev main_cst_0 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_1 : Ref sig .tc := ⟨.hbm, 76, rfl⟩
abbrev main_v63 : Ref sig .tc := ⟨.hbm, 77, rfl⟩
abbrev main_v64 : Ref sig .tc := ⟨.hbm, 78, rfl⟩
abbrev main_cst_2 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_4 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_5 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_6 : Ref sig .tc := ⟨.hbm, 116, rfl⟩
abbrev main_v85 : Ref sig .tc := ⟨.hbm, 117, rfl⟩
abbrev main_c_7 : Ref sig .tc := ⟨.hbm, 118, rfl⟩
abbrev main_v86_0 : Ref sig .tc := ⟨.hbm, 119, rfl⟩
abbrev main_v86_1 : Ref sig .tc := ⟨.hbm, 120, rfl⟩
abbrev main_v86_2 : Ref sig .tc := ⟨.hbm, 121, rfl⟩
abbrev main_v86_3 : Ref sig .tc := ⟨.hbm, 122, rfl⟩
abbrev main_v86_4 : Ref sig .tc := ⟨.hbm, 123, rfl⟩
abbrev main_while0c_c_16 : Ref sig .tc := ⟨.hbm, 124, rfl⟩
abbrev main_while0c_v106 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_v0 : Ref sig .tc := ⟨.hbm, 128, rfl⟩
abbrev main_while0b_v106 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_v0 : Ref sig .tc := ⟨.hbm, 132, rfl⟩
abbrev main_while0b_v107 : Ref sig .tc := ⟨.hbm, 133, rfl⟩
abbrev main_while0b_v108 : Ref sig .tc := ⟨.hbm, 134, rfl⟩
abbrev main_while0b_v109 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_v110 : Ref sig .tc := ⟨.hbm, 139, rfl⟩
abbrev main_while0b_c_16 : Ref sig .tc := ⟨.hbm, 140, rfl⟩
abbrev main_while0b_v111 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_8 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_9 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_10 : Ref sig .tc := ⟨.hbm, 156, rfl⟩
abbrev main_v99 : Ref sig .tc := ⟨.hbm, 157, rfl⟩
abbrev main_v100 : Ref sig .tc := ⟨.hbm, 158, rfl⟩
abbrev main_cst_11 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩

abbrev nD : Nat := 1
abbrev τ : Topo := Topo.v7x

variable {F : FTy → Type} [FloatOps F]

abbrev main_while0_count : Scf.Loop 32 := ⟨0#32, 2048#32, 1#32⟩
-- ==== Qkv.lean ====
abbrev S8x2048x1024 : Shape := ⟨3, ![8, 2048, 1024]⟩
abbrev S1x1024x2560 : Shape := ⟨3, ![1, 1024, 2560]⟩
abbrev S1x1024x1536 : Shape := ⟨3, ![1, 1024, 1536]⟩
abbrev S1024x1536 : Shape := ⟨2, ![1024, 1536]⟩
abbrev S8x2048x512 : Shape := ⟨3, ![8, 2048, 512]⟩
abbrev S8x8x512x256 : Shape := ⟨4, ![8, 8, 512, 256]⟩
abbrev S8x8x1x512 : Shape := ⟨4, ![8, 8, 1, 512]⟩
abbrev S1x512x1024 : Shape := ⟨3, ![1, 512, 1024]⟩
abbrev S1x512x512 : Shape := ⟨3, ![1, 512, 512]⟩
abbrev S1x2x512x256 : Shape := ⟨4, ![1, 2, 512, 256]⟩
abbrev S1x2x1x512 : Shape := ⟨4, ![1, 2, 1, 512]⟩
abbrev S512x1024 : Shape := ⟨2, ![512, 1024]⟩
abbrev S512x1536 : Shape := ⟨2, ![512, 1536]⟩
abbrev S512x512 : Shape := ⟨2, ![512, 512]⟩
abbrev S256x512 : Shape := ⟨2, ![256, 512]⟩
abbrev S512x256 : Shape := ⟨2, ![512, 256]⟩
abbrev S1x1x512x256 : Shape := ⟨4, ![1, 1, 512, 256]⟩
abbrev S512 : Shape := ⟨1, ![512]⟩
abbrev S1x512 : Shape := ⟨2, ![1, 512]⟩
abbrev S1x1x1x512 : Shape := ⟨4, ![1, 1, 1, 512]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2560, .f32⟩
  | .hbm, ⟨2, _⟩ => ⟨S1x1024x1536, .f32⟩
  | .hbm, ⟨3, _⟩ => ⟨S1024x1536, .f32⟩
  | .hbm, ⟨4, _⟩ => ⟨S1024x1536, .bf16⟩
  | .hbm, ⟨5, _⟩ => ⟨S8x2048x512, .bf16⟩
  | .hbm, ⟨6, _⟩ => ⟨S8x2048x512, .bf16⟩
  | .hbm, ⟨7, _⟩ => ⟨S8x8x512x256, .bf16⟩
  | .hbm, ⟨8, _⟩ => ⟨S8x8x1x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x1536, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x2x512x256, .bf16⟩
  | .local _ .vmem, ⟨8, _⟩ => ⟨S1x2x512x256, .bf16⟩
  | .local _ .vmem, ⟨9, _⟩ => ⟨S1x2x1x512, .f32⟩
  | .local _ .vmem, ⟨10, _⟩ => ⟨S1x2x1x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8x2048x1024 : Shape := ⟨3, ![8, 2048, 1024]⟩
abbrev S1x1024x2560 : Shape := ⟨3, ![1, 1024, 2560]⟩
abbrev S1x1024x512 : Shape := ⟨3, ![1, 1024, 512]⟩
abbrev S1024x512 : Shape := ⟨2, ![1024, 512]⟩
abbrev S8x2048x512 : Shape := ⟨3, ![8, 2048, 512]⟩
abbrev S8x8x256x512 : Shape := ⟨4, ![8, 8, 256, 512]⟩
abbrev S_ : Shape := ⟨0, ![]⟩
abbrev S8x8x512 : Shape := ⟨3, ![8, 8, 512]⟩
abbrev S8x8x1x512 : Shape := ⟨4, ![8, 8, 1, 512]⟩
abbrev S8x8x512x256 : Shape := ⟨4, ![8, 8, 512, 256]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2560, .f32⟩
  | .hbm, ⟨2, _⟩ => ⟨S1x1024x512, .f32⟩
  | .hbm, ⟨3, _⟩ => ⟨S1024x512, .f32⟩
  | .hbm, ⟨4, _⟩ => ⟨S8x2048x512, .f32⟩
  | .hbm, ⟨5, _⟩ => ⟨S1x1024x512, .f32⟩
  | .hbm, ⟨6, _⟩ => ⟨S1024x512, .f32⟩
  | .hbm, ⟨7, _⟩ => ⟨S8x2048x512, .f32⟩
  | .hbm, ⟨8, _⟩ => ⟨S1x1024x512, .f32⟩
  | .hbm, ⟨9, _⟩ => ⟨S1024x512, .f32⟩
  | .hbm, ⟨10, _⟩ => ⟨S8x2048x512, .f32⟩
  | .hbm, ⟨11, _⟩ => ⟨S8x8x256x512, .f32⟩
  | .hbm, ⟨12, _⟩ => ⟨S8x8x256x512, .f32⟩
  | .hbm, ⟨13, _⟩ => ⟨S_, .f32⟩
  | .hbm, ⟨14, _⟩ => ⟨S8x8x512, .f32⟩
  | .hbm, ⟨15, _⟩ => ⟨S8x8x1x512, .f32⟩
  | .hbm, ⟨16, _⟩ => ⟨S_, .f32⟩
  | .hbm, ⟨17, _⟩ => ⟨S8x8x1x512, .f32⟩
  | .hbm, ⟨18, _⟩ => ⟨S8x8x1x512, .f32⟩
  | .hbm, ⟨19, _⟩ => ⟨S_, .f32⟩
  | .hbm, ⟨20, _⟩ => ⟨S8x2048x512, .f32⟩
  | .hbm, ⟨21, _⟩ => ⟨S8x2048x512, .f32⟩
  | .hbm, ⟨22, _⟩ => ⟨S8x2048x512, .bf16⟩
  | .hbm, ⟨23, _⟩ => ⟨S8x2048x512, .bf16⟩
  | .hbm, ⟨24, _⟩ => ⟨S8x8x512x256, .f32⟩
  | .hbm, ⟨25, _⟩ => ⟨S8x8x512x256, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Mlp.Cases.lean ====
/-
  What each grid point of the output-projection and MLP kernel leaves: the first MLP tile of a row block projects
  and normalises it and starts the sum, a middle tile adds its part, the last tile adds its part and writes the
  block. Each is one covering store, so what the buffer holds is that store's value of what the point read.
-/
module

public import proofs.«01_k».proof.Proof.Gen.MlpIdeal.Value
public import Idealize.ShloMosaic.Lib.Pointwise

@[expose] public section

set_option maxRecDepth 16384

noncomputable section

namespace Cert.MlpIdeal.Cases

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

theorem first_x1 (c : Dev nD) (t : Fin cfg0.N) (h0 : t.val % 8 = 0) (h1 : ¬ t.val % 8 = 7) :
    (outsAt0 m c t.val t.isLt).2.1 = k0_pay2 (F := Ideal) (k0_pay7 (F := Ideal) (iblk m c 5 t)) (k0_pay8 (F := Ideal) (iblk m c 1 t) (View.ld (iblk m c 3 t) (Rect.unit ![0, 0] ![512, 1024] inb_S1024x1024_S512x1024_0_0))
          (iblk m c 2 t) (View.ld (iblk m c 3 t) (Rect.unit ![512, 0] ![512, 1024] inb_S1024x1024_S512x1024_512_0))
          (iblk m c 0 t) (iblk m c 4 t)) := by
  rw [outsAt0_A m c t h0 h1]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread,
    (hs0_3 t).read_unread, (hs0_4 t).read_unread, (hs0_5 t).read_unread, View.ld_unit_zero (S := S1024x1024) hz,
    View.ld_unit_zero (S := S1024x512) hz, View.ld_unit_zero (S := S1x1024) hz]
  congr 2

theorem first_x1b (c : Dev nD) (t : Fin cfg0.N) (h0 : t.val % 8 = 0) (h1 : ¬ t.val % 8 = 7) :
    (outsAt0 m c t.val t.isLt).2.2.1 = k0_pay3 (F := Ideal) (k0_pay7 (F := Ideal) (iblk m c 5 t)) (k0_pay8 (F := Ideal) (iblk m c 1 t) (View.ld (iblk m c 3 t) (Rect.unit ![0, 0] ![512, 1024] inb_S1024x1024_S512x1024_0_0))
          (iblk m c 2 t) (View.ld (iblk m c 3 t) (Rect.unit ![512, 0] ![512, 1024] inb_S1024x1024_S512x1024_512_0))
          (iblk m c 0 t) (iblk m c 4 t)) := by
  rw [outsAt0_A m c t h0 h1]
  dsimp only
  unfold sout0_A_1
  rw [View.read_writes_eq_canon _ _ _ (scover0_A_1 c _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread,
    (hs0_3 t).read_unread, (hs0_4 t).read_unread, (hs0_5 t).read_unread, View.ld_unit_zero (S := S1024x1024) hz,
    View.ld_unit_zero (S := S1024x512) hz, View.ld_unit_zero (S := S1x1024) hz]
  congr 2

theorem first_acc (c : Dev nD) (t : Fin cfg0.N) (h0 : t.val % 8 = 0) (h1 : ¬ t.val % 8 = 7) :
    (outsAt0 m c t.val t.isLt).2.2.2
      = k0_pay5 (F := Ideal) (k0_pay3 (F := Ideal) (k0_pay7 (F := Ideal) (iblk m c 5 t)) (k0_pay8 (F := Ideal) (iblk m c 1 t) (View.ld (iblk m c 3 t) (Rect.unit ![0, 0] ![512, 1024] inb_S1024x1024_S512x1024_0_0))
          (iblk m c 2 t) (View.ld (iblk m c 3 t) (Rect.unit ![512, 0] ![512, 1024] inb_S1024x1024_S512x1024_512_0))
          (iblk m c 0 t) (iblk m c 4 t))) (iblk m c 6 t) (iblk m c 7 t) (k0_pay4 (F := Ideal)) (iblk m c 8 t) := by
  rw [outsAt0_A m c t h0 h1]
  dsimp only
  unfold sout0_A_2
  rw [View.read_writes_eq_canon _ _ _ (scover0_A_2 c _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero (S := S1024x1024) hz]
  simp only [View.readCov_unit_zero (S := S1024x1024) _ hz]
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, View.ld_unit_zero (S := S1024x1024) hz, View.ld_unit_zero (S := S1x512) hz, View.ld_unit_zero (S := S512x1024) hz,
    View.ld_unit_zero (S := S1024x512) hz, View.ld_unit_zero (S := S1x1024) hz]
  congr 3

theorem mid_x1 (c : Dev nD) (t : Fin cfg0.N) (h0 : ¬ t.val % 8 = 0) (h1 : ¬ t.val % 8 = 7) (ht : t.val - 1 < cfg0.N) :
    (outsAt0 m c t.val t.isLt).2.1 = (outsAt0 m c (t.val - 1) ht).2.1 := by
  rw [outsAt0_B m c t h0 h1]; rfl

theorem mid_x1b (c : Dev nD) (t : Fin cfg0.N) (h0 : ¬ t.val % 8 = 0) (h1 : ¬ t.val % 8 = 7) (ht : t.val - 1 < cfg0.N) :
    (outsAt0 m c t.val t.isLt).2.2.1 = (outsAt0 m c (t.val - 1) ht).2.2.1 := by
  rw [outsAt0_B m c t h0 h1]; rfl

theorem mid_acc (c : Dev nD) (t : Fin cfg0.N) (h0 : ¬ t.val % 8 = 0) (h1 : ¬ t.val % 8 = 7) (ht : t.val - 1 < cfg0.N) :
    (outsAt0 m c t.val t.isLt).2.2.2
      = k0_pay5 (F := Ideal) (outsAt0 m c (t.val - 1) ht).2.2.1 (iblk m c 6 t) (iblk m c 7 t) (outsAt0 m c (t.val - 1) ht).2.2.2 (iblk m c 8 t) := by
  rw [outsAt0_B m c t h0 h1]
  dsimp only
  unfold sout0_B_2
  rw [View.read_writes_eq_canon _ _ _ (scover0_B_2 c _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1024x1024) hz]
  simp only [View.readAt_eq_ld, (hs0_6 t).read_unread, (hs0_7 t).read_unread,
    (hs0_8 t).read_unread, (Memref.isWhole_whole cc0_scratch1).read_unread, (Memref.isWhole_whole cc0_scratch2).read_unread, View.ld_unit_zero (S := S1024x1024) hz, View.ld_unit_zero (S := S1x512) hz, View.ld_unit_zero (S := S512x1024) hz,
    View.ld_unit_zero (S := S1024x512) hz]

theorem last_out (c : Dev nD) (t : Fin cfg0.N) (h0 : ¬ t.val % 8 = 0) (h1 : t.val % 8 = 7) (ht : t.val - 1 < cfg0.N) :
    (outsAt0 m c t.val t.isLt).1
      = k0_pay6 (F := Ideal) (outsAt0 m c (t.val - 1) ht).2.1
          (k0_pay5 (F := Ideal) (outsAt0 m c (t.val - 1) ht).2.2.1 (iblk m c 6 t) (iblk m c 7 t) (outsAt0 m c (t.val - 1) ht).2.2.2 (iblk m c 8 t))
          (iblk m c 9 t) (iblk m c 10 t) (iblk m c 11 t) := by
  rw [outsAt0_C m c t h0 h1]
  dsimp only
  unfold out0_C_12
  rw [View.read_writes_eq_canon _ _ _ (cover0_C_12 c _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1024x1024) hz]
  simp only [View.readCov_unit_zero (S := S1024x1024) _ hz]
  simp only [View.readAt_eq_ld, (hs0_6 t).read_unread, (hs0_7 t).read_unread, (hs0_9 t).read_unread, (hs0_10 t).read_unread, (hs0_11 t).read_unread,
    (hs0_8 t).read_unread, (Memref.isWhole_whole cc0_scratch0).read_unread, (Memref.isWhole_whole cc0_scratch1).read_unread, (Memref.isWhole_whole cc0_scratch2).read_unread, View.ld_unit_zero (S := S1024x1024) hz, View.ld_unit_zero (S := S1x512) hz, View.ld_unit_zero (S := S512x1024) hz,
    View.ld_unit_zero (S := S1024x512) hz, View.ld_unit_zero (S := S1x1024) hz]

end Cert.MlpIdeal.Cases

end
-- ==== Proof.Mlp.Blocks.lean ====
/-
  What the blocks of the output-projection and MLP kernel hold, as the launch's arguments: the host reshapes the
  activations to rows, drops the weights' leading axis and rounds them to `bf16` (the identity over the reals).
-/
module

public import proofs.«01_k».proof.Proof.Gen.MlpIdeal.Value
public import Idealize.ShloMosaic.Lib.Pointwise

@[expose] public section

set_option maxRecDepth 16384

noncomputable section

namespace Cert.MlpIdeal.Blocks

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The sequence and the position of row `r` of the row block that point `t` works on. -/
abbrev rowN (t : Fin cfg0.N) (r : Fin 1024) : Fin 8 := ⟨(1024 * (t.val / 8) + r.val) / 2048 % 8, Nat.mod_lt _ (by decide)⟩
abbrev rowS (t : Fin cfg0.N) (r : Fin 1024) : Fin 2048 := ⟨(1024 * (t.val / 8) + r.val) % 2048, Nat.mod_lt _ (by decide)⟩
/-- The hidden unit in column `x` of the MLP tile that point `t` works on. -/
abbrev unitOf (t : Fin cfg0.N) (x : Fin 512) : Fin 4096 := ⟨(512 * (t.val % 8) + x.val) % 4096, Nat.mod_lt _ (by decide)⟩

/-- A row of the flattened array is a sequence's position. -/
theorem rows1024 {dt : FTy} (x : FVec Ideal S8x2048x1024 dt) (R : Fin 16384) (k : Fin 1024) (n : Fin 8) (p : Fin 2048)
    (hn : n.val = R.val / 2048 % 8) (hp : p.val = R.val % 2048) :
    shapeCast S16384x1024 x shapeCasts_S8x2048x1024_S16384x1024 (ix2 R k) = x (ix3 n p k) := by
  refine shapeCast_apply _ _ _ (ix3 n p k) ?_
  rw [Shape.rowMajor_val_three, Shape.rowMajor_val_two]
  show (n.val * 2048 + p.val) * 1024 + k.val = R.val * 1024 + k.val
  have := R.isLt
  rw [hn, hp]
  have : R.val / 2048 % 8 * 2048 + R.val % 2048 = R.val := by omega
  rw [this]

/-- A row of the flattened array is a sequence's position. -/
theorem rows512 {dt : FTy} (x : FVec Ideal S8x2048x512 dt) (R : Fin 16384) (k : Fin 512) (n : Fin 8) (p : Fin 2048)
    (hn : n.val = R.val / 2048 % 8) (hp : p.val = R.val % 2048) :
    shapeCast S16384x512 x shapeCasts_S8x2048x512_S16384x512 (ix2 R k) = x (ix3 n p k) := by
  refine shapeCast_apply _ _ _ (ix3 n p k) ?_
  rw [Shape.rowMajor_val_three, Shape.rowMajor_val_two]
  show (n.val * 2048 + p.val) * 512 + k.val = R.val * 512 + k.val
  have := R.isLt
  rw [hn, hp]
  have : R.val / 2048 % 8 * 2048 + R.val % 2048 = R.val := by omega
  rw [this]

theorem V0 (c : Dev nD) : @Eq (FVec Ideal S16384x1024 .f32) (V m c main_v0)
    (shapeCast S16384x1024 (m ((c : Thread nD τ).loc main_arg0) : FVec Ideal S8x2048x1024 .f32) shapeCasts_S8x2048x1024_S16384x1024) := by
  unfold V
  after_results_simp <;> rfl

theorem V1 (c : Dev nD) : @Eq (FVec Ideal S16384x512 .bf16) (V m c main_v1)
    (shapeCast S16384x512 (m ((c : Thread nD τ).loc main_arg1) : FVec Ideal S8x2048x512 .bf16) shapeCasts_S8x2048x512_S16384x512) := by
  unfold V
  after_results_simp <;> rfl

theorem V2 (c : Dev nD) : @Eq (FVec Ideal S16384x512 .bf16) (V m c main_v2)
    (shapeCast S16384x512 (m ((c : Thread nD τ).loc main_arg2) : FVec Ideal S8x2048x512 .bf16) shapeCasts_S8x2048x512_S16384x512) := by
  unfold V
  after_results_simp <;> rfl

theorem V3 (c : Dev nD) : @Eq (FVec Ideal S1024x1024 .bf16) (V m c main_v4)
    ((truncf .bf16 (shapeCast S1024x1024 (m ((c : Thread nD τ).loc main_arg3) : FVec Ideal S1x1024x1024 .f32) shapeCasts_S1x1024x1024_S1024x1024 : FVec Ideal S1024x1024 .f32) bitsLt_bf16_f32 : FVec Ideal S1024x1024 .bf16)) := by
  unfold V
  after_results_simp <;> rfl

theorem V6 (c : Dev nD) : @Eq (FVec Ideal S1024x4096 .bf16) (V m c main_v10)
    ((truncf .bf16 (shapeCast S1024x4096 (m ((c : Thread nD τ).loc main_arg6) : FVec Ideal S1x1024x4096 .f32) shapeCasts_S1x1024x4096_S1024x4096 : FVec Ideal S1024x4096 .f32) bitsLt_bf16_f32 : FVec Ideal S1024x4096 .bf16)) := by
  unfold V
  after_results_simp <;> rfl

theorem V8 (c : Dev nD) : @Eq (FVec Ideal S4096x1024 .bf16) (V m c main_v14)
    ((truncf .bf16 (shapeCast S4096x1024 (m ((c : Thread nD τ).loc main_arg8) : FVec Ideal S1x4096x1024 .f32) shapeCasts_S1x4096x1024_S4096x1024 : FVec Ideal S4096x1024 .f32) bitsLt_bf16_f32 : FVec Ideal S4096x1024 .bf16)) := by
  unfold V
  after_results_simp <;> rfl

theorem V4 (c : Dev nD) : @Eq (FVec Ideal S1x1024 .f32) (V m c main_v6)
    (shapeCast S1x1024 (shapeCast S1024 (m ((c : Thread nD τ).loc main_arg4) : FVec Ideal S1x1024 .f32) shapeCasts_S1x1024_S1024) shapeCasts_S1024_S1x1024) := by
  unfold V
  after_results_simp <;> rfl

theorem V5 (c : Dev nD) : @Eq (FVec Ideal S1x1024 .f32) (V m c main_v8)
    (shapeCast S1x1024 (shapeCast S1024 (m ((c : Thread nD τ).loc main_arg5) : FVec Ideal S1x1024 .f32) shapeCasts_S1x1024_S1024) shapeCasts_S1024_S1x1024) := by
  unfold V
  after_results_simp <;> rfl

theorem V7 (c : Dev nD) : @Eq (FVec Ideal S1x4096 .f32) (V m c main_v12)
    (shapeCast S1x4096 (shapeCast S4096 (m ((c : Thread nD τ).loc main_arg7) : FVec Ideal S1x4096 .f32) shapeCasts_S1x4096_S4096) shapeCasts_S4096_S1x4096) := by
  unfold V
  after_results_simp <;> rfl

theorem V9 (c : Dev nD) : @Eq (FVec Ideal S1x1024 .f32) (V m c main_v16)
    (shapeCast S1x1024 (shapeCast S1024 (m ((c : Thread nD τ).loc main_arg9) : FVec Ideal S1x1024 .f32) shapeCasts_S1x1024_S1024) shapeCasts_S1024_S1x1024) := by
  unfold V
  after_results_simp <;> rfl

theorem V10 (c : Dev nD) : @Eq (FVec Ideal S1x1024 .f32) (V m c main_v18)
    (shapeCast S1x1024 (shapeCast S1024 (m ((c : Thread nD τ).loc main_arg10) : FVec Ideal S1x1024 .f32) shapeCasts_S1x1024_S1024) shapeCasts_S1024_S1x1024) := by
  unfold V
  after_results_simp <;> rfl

theorem V11 (c : Dev nD) : @Eq (FVec Ideal S1x1024 .f32) (V m c main_v20)
    (shapeCast S1x1024 (shapeCast S1024 (m ((c : Thread nD τ).loc main_arg11) : FVec Ideal S1x1024 .f32) shapeCasts_S1x1024_S1024) shapeCasts_S1024_S1x1024) := by
  unfold V
  after_results_simp <;> rfl

theorem idx0 : ∀ t : Fin cfg0.N, win0_0.index t (0 : Fin 2) = t.val / 8 ∧ win0_0.index t (1 : Fin 2) = 0 :=
  (by decide +kernel : ∀ t : Fin grid0.N, _)

theorem idx1 : ∀ t : Fin cfg0.N, win0_1.index t (0 : Fin 2) = t.val / 8 ∧ win0_1.index t (1 : Fin 2) = 0 :=
  (by decide +kernel : ∀ t : Fin grid0.N, _)

theorem idx2 : ∀ t : Fin cfg0.N, win0_2.index t (0 : Fin 2) = t.val / 8 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = t.val % 8 :=
  (by decide +kernel : ∀ t : Fin grid0.N, _)

theorem idx7 : ∀ t : Fin cfg0.N, win0_7.index t (0 : Fin 2) = 0 ∧ win0_7.index t (1 : Fin 2) = t.val % 8 :=
  (by decide +kernel : ∀ t : Fin grid0.N, _)

theorem idx8 : ∀ t : Fin cfg0.N, win0_8.index t (0 : Fin 2) = t.val % 8 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = t.val / 8 ∧ win0_12.index t (1 : Fin 2) = 0 :=
  (by decide +kernel : ∀ t : Fin grid0.N, _)

theorem b0 (c : Dev nD) (t : Fin cfg0.N) (r : Fin 1024) (k : Fin 1024) :
    (iblk m c 0 t : FVec Ideal S1024x1024 .f32) (ix2 r k) = (m ((c : Thread nD τ).loc main_arg0) : FVec Ideal S8x2048x1024 .f32) (ix3 (rowN t r) (rowS t r) k) := by
  unfold iblk
  rw [View.read_apply]
  show (V m c main_v0 : FVec Ideal S16384x1024 .f32) _ = _
  rw [V0]
  obtain ⟨e0, e1⟩ := idx0 t
  have ht : t.val < 128 := t.isLt
  obtain ⟨R, hR⟩ : ∃ R : Fin 16384, R.val = 1024 * (t.val / 8) + r.val :=
    ⟨⟨1024 * (t.val / 8) + r.val, by have := r.isLt; omega⟩, rfl⟩
  have he : (((cfg0.win 0).blk t).view.emb (ix2 r k) : S16384x1024.Idx) = ix2 R k := by
    funext a; apply Fin.ext
    match a with
    | ⟨0, _⟩ => show win0_0.index t 0 * 1024 + 1 * r.val = _; rw [e0]; (try show _ = R.val); omega
    | ⟨1, _⟩ => show win0_0.index t 1 * 1024 + 1 * k.val = _; rw [e1]; (try show _ = k.val); omega
  erw [he]
  exact rows1024 _ R k _ _ (by rw [hR]) (by rw [hR])

theorem b1 (c : Dev nD) (t : Fin cfg0.N) (r : Fin 1024) (k : Fin 512) :
    (iblk m c 1 t : FVec Ideal S1024x512 .bf16) (ix2 r k) = (m ((c : Thread nD τ).loc main_arg1) : FVec Ideal S8x2048x512 .bf16) (ix3 (rowN t r) (rowS t r) k) := by
  unfold iblk
  rw [View.read_apply]
  show (V m c main_v1 : FVec Ideal S16384x512 .bf16) _ = _
  rw [V1]
  obtain ⟨e0, e1⟩ := idx1 t
  have ht : t.val < 128 := t.isLt
  obtain ⟨R, hR⟩ : ∃ R : Fin 16384, R.val = 1024 * (t.val / 8) + r.val :=
    ⟨⟨1024 * (t.val / 8) + r.val, by have := r.isLt; omega⟩, rfl⟩
  have he : (((cfg0.win 1).blk t).view.emb (ix2 r k) : S16384x512.Idx) = ix2 R k := by
    funext a; apply Fin.ext
    match a with
    | ⟨0, _⟩ => show win0_1.index t 0 * 1024 + 1 * r.val = _; rw [e0]; (try show _ = R.val); omega
    | ⟨1, _⟩ => show win0_1.index t 1 * 512 + 1 * k.val = _; rw [e1]; (try show _ = k.val); omega
  erw [he]
  exact rows512 _ R k _ _ (by rw [hR]) (by rw [hR])

theorem b2 (c : Dev nD) (t : Fin cfg0.N) (r : Fin 1024) (k : Fin 512) :
    (iblk m c 2 t : FVec Ideal S1024x512 .bf16) (ix2 r k) = (m ((c : Thread nD τ).loc main_arg2) : FVec Ideal S8x2048x512 .bf16) (ix3 (rowN t r) (rowS t r) k) := by
  unfold iblk
  rw [View.read_apply]
  show (V m c main_v2 : FVec Ideal S16384x512 .bf16) _ = _
  rw [V2]
  obtain ⟨e0, e1⟩ := idx2 t
  have ht : t.val < 128 := t.isLt
  obtain ⟨R, hR⟩ : ∃ R : Fin 16384, R.val = 1024 * (t.val / 8) + r.val :=
    ⟨⟨1024 * (t.val / 8) + r.val, by have := r.isLt; omega⟩, rfl⟩
  have he : (((cfg0.win 2).blk t).view.emb (ix2 r k) : S16384x512.Idx) = ix2 R k := by
    funext a; apply Fin.ext
    match a with
    | ⟨0, _⟩ => show win0_2.index t 0 * 1024 + 1 * r.val = _; rw [e0]; (try show _ = R.val); omega
    | ⟨1, _⟩ => show win0_2.index t 1 * 512 + 1 * k.val = _; rw [e1]; (try show _ = k.val); omega
  erw [he]
  exact rows512 _ R k _ _ (by rw [hR]) (by rw [hR])

/-- A weight without its leading axis, rounded to `bf16`. -/
theorem weight1024x1024 (x : FVec Ideal S1x1024x1024 .f32) (R : Fin 1024) (C : Fin 1024) :
    (truncf .bf16 (shapeCast S1024x1024 x shapeCasts_S1x1024x1024_S1024x1024 : FVec Ideal S1024x1024 .f32) bitsLt_bf16_f32
      : FVec Ideal S1024x1024 .bf16) (ix2 R C) = x (ix3 0 R C) := by
  show shapeCast S1024x1024 x shapeCasts_S1x1024x1024_S1024x1024 (ix2 R C) = _
  refine shapeCast_apply _ _ _ (ix3 0 R C) ?_
  rw [Shape.rowMajor_val_three, Shape.rowMajor_val_two]
  show (0 * 1024 + R.val) * 1024 + C.val = R.val * 1024 + C.val
  rw [Nat.zero_mul, Nat.zero_add]

/-- A weight without its leading axis, rounded to `bf16`. -/
theorem weight1024x4096 (x : FVec Ideal S1x1024x4096 .f32) (R : Fin 1024) (C : Fin 4096) :
    (truncf .bf16 (shapeCast S1024x4096 x shapeCasts_S1x1024x4096_S1024x4096 : FVec Ideal S1024x4096 .f32) bitsLt_bf16_f32
      : FVec Ideal S1024x4096 .bf16) (ix2 R C) = x (ix3 0 R C) := by
  show shapeCast S1024x4096 x shapeCasts_S1x1024x4096_S1024x4096 (ix2 R C) = _
  refine shapeCast_apply _ _ _ (ix3 0 R C) ?_
  rw [Shape.rowMajor_val_three, Shape.rowMajor_val_two]
  show (0 * 1024 + R.val) * 4096 + C.val = R.val * 4096 + C.val
  rw [Nat.zero_mul, Nat.zero_add]

/-- A weight without its leading axis, rounded to `bf16`. -/
theorem weight4096x1024 (x : FVec Ideal S1x4096x1024 .f32) (R : Fin 4096) (C : Fin 1024) :
    (truncf .bf16 (shapeCast S4096x1024 x shapeCasts_S1x4096x1024_S4096x1024 : FVec Ideal S4096x1024 .f32) bitsLt_bf16_f32
      : FVec Ideal S4096x1024 .bf16) (ix2 R C) = x (ix3 0 R C) := by
  show shapeCast S4096x1024 x shapeCasts_S1x4096x1024_S4096x1024 (ix2 R C) = _
  refine shapeCast_apply _ _ _ (ix3 0 R C) ?_
  rw [Shape.rowMajor_val_three, Shape.rowMajor_val_two]
  show (0 * 4096 + R.val) * 1024 + C.val = R.val * 1024 + C.val
  rw [Nat.zero_mul, Nat.zero_add]

theorem b3 (c : Dev nD) (t : Fin cfg0.N) (r : Fin 1024) (k : Fin 1024) :
    (iblk m c 3 t : FVec Ideal S1024x1024 .bf16) (ix2 r k) = (m ((c : Thread nD τ).loc main_arg3) : FVec Ideal S1x1024x1024 .f32) (ix3 0 r k) := by
  unfold iblk
  rw [View.read_apply]
  show (V m c main_v4 : FVec Ideal S1024x1024 .bf16) _ = _
  rw [V3]
  obtain ⟨e0, e1⟩ := idx3 t
  have ht : t.val < 128 := t.isLt
  have he : (((cfg0.win 3).blk t).view.emb (ix2 r k) : S1024x1024.Idx) = ix2 r k := by
    funext a; apply Fin.ext
    match a with
    | ⟨0, _⟩ => show win0_3.index t 0 * 1024 + 1 * r.val = _; rw [e0]; (try show _ = r.val); omega
    | ⟨1, _⟩ => show win0_3.index t 1 * 1024 + 1 * k.val = _; rw [e1]; (try show _ = k.val); omega
  erw [he]
  exact weight1024x1024 _ _ _

theorem b6 (c : Dev nD) (t : Fin cfg0.N) (r : Fin 1024) (k : Fin 512) :
    (iblk m c 6 t : FVec Ideal S1024x512 .bf16) (ix2 r k) = (m ((c : Thread nD τ).loc main_arg6) : FVec Ideal S1x1024x4096 .f32) (ix3 0 r (unitOf t k)) := by
  unfold iblk
  rw [View.read_apply]
  show (V m c main_v10 : FVec Ideal S1024x4096 .bf16) _ = _
  rw [V6]
  obtain ⟨e0, e1⟩ := idx6 t
  have ht : t.val < 128 := t.isLt
  have he : (((cfg0.win 6).blk t).view.emb (ix2 r k) : S1024x4096.Idx) = ix2 r (unitOf t k) := by
    funext a; apply Fin.ext
    match a with
    | ⟨0, _⟩ => show win0_6.index t 0 * 1024 + 1 * r.val = _; rw [e0]; (try show _ = r.val); omega
    | ⟨1, _⟩ => show win0_6.index t 1 * 512 + 1 * k.val = _; rw [e1]; (try show _ = (512 * (t.val % 8) + k.val) % 4096); omega
  erw [he]
  exact weight1024x4096 _ _ _

theorem b8 (c : Dev nD) (t : Fin cfg0.N) (r : Fin 512) (k : Fin 1024) :
    (iblk m c 8 t : FVec Ideal S512x1024 .bf16) (ix2 r k) = (m ((c : Thread nD τ).loc main_arg8) : FVec Ideal S1x4096x1024 .f32) (ix3 0 (unitOf t r) k) := by
  unfold iblk
  rw [View.read_apply]
  show (V m c main_v14 : FVec Ideal S4096x1024 .bf16) _ = _
  rw [V8]
  obtain ⟨e0, e1⟩ := idx8 t
  have ht : t.val < 128 := t.isLt
  have he : (((cfg0.win 8).blk t).view.emb (ix2 r k) : S4096x1024.Idx) = ix2 (unitOf t r) k := by
    funext a; apply Fin.ext
    match a with
    | ⟨0, _⟩ => show win0_8.index t 0 * 512 + 1 * r.val = _; rw [e0]; (try show _ = (512 * (t.val % 8) + r.val) % 4096); omega
    | ⟨1, _⟩ => show win0_8.index t 1 * 1024 + 1 * k.val = _; rw [e1]; (try show _ = k.val); omega
  erw [he]
  exact weight4096x1024 _ _ _

theorem b4 (c : Dev nD) (t : Fin cfg0.N) (r : Fin 1) (k : Fin 1024) :
    (iblk m c 4 t : FVec Ideal S1x1024 .f32) (ix2 r k) = (m ((c : Thread nD τ).loc main_arg4) : FVec Ideal S1x1024 .f32) (ix2 0 k) := by
  unfold iblk
  rw [View.read_apply]
  show (V m c main_v6 : FVec Ideal S1x1024 .f32) _ = _
  rw [V4]
  obtain ⟨e0, e1⟩ := idx4 t
  have ht : t.val < 128 := t.isLt
  have he : (((cfg0.win 4).blk t).view.emb (ix2 r k) : S1x1024.Idx) = ix2 0 k := by
    funext a; apply Fin.ext
    match a with
    | ⟨0, _⟩ => show win0_4.index t 0 * 1 + 1 * r.val = _; rw [e0]; (try show _ = 0); omega
    | ⟨1, _⟩ => show win0_4.index t 1 * 1024 + 1 * k.val = _; rw [e1]; (try show _ = k.val); omega
  erw [he]
  pointwise

theorem b5 (c : Dev nD) (t : Fin cfg0.N) (r : Fin 1) (k : Fin 1024) :
    (iblk m c 5 t : FVec Ideal S1x1024 .f32) (ix2 r k) = (m ((c : Thread nD τ).loc main_arg5) : FVec Ideal S1x1024 .f32) (ix2 0 k) := by
  unfold iblk
  rw [View.read_apply]
  show (V m c main_v8 : FVec Ideal S1x1024 .f32) _ = _
  rw [V5]
  obtain ⟨e0, e1⟩ := idx5 t
  have ht : t.val < 128 := t.isLt
  have he : (((cfg0.win 5).blk t).view.emb (ix2 r k) : S1x1024.Idx) = ix2 0 k := by
    funext a; apply Fin.ext
    match a with
    | ⟨0, _⟩ => show win0_5.index t 0 * 1 + 1 * r.val = _; rw [e0]; (try show _ = 0); omega
    | ⟨1, _⟩ => show win0_5.index t 1 * 1024 + 1 * k.val = _; rw [e1]; (try show _ = k.val); omega
  erw [he]
  pointwise

theorem b7 (c : Dev nD) (t : Fin cfg0.N) (r : Fin 1) (k : Fin 512) :
    (iblk m c 7 t : FVec Ideal S1x512 .f32) (ix2 r k) = (m ((c : Thread nD τ).loc main_arg7) : FVec Ideal S1x4096 .f32) (ix2 0 (unitOf t k)) := by
  unfold iblk
  rw [View.read_apply]
  show (V m c main_v12 : FVec Ideal S1x4096 .f32) _ = _
  rw [V7]
  obtain ⟨e0, e1⟩ := idx7 t
  have ht : t.val < 128 := t.isLt
  have he : (((cfg0.win 7).blk t).view.emb (ix2 r k) : S1x4096.Idx) = ix2 0 (unitOf t k) := by
    funext a; apply Fin.ext
    match a with
    | ⟨0, _⟩ => show win0_7.index t 0 * 1 + 1 * r.val = _; rw [e0]; (try show _ = 0); omega
    | ⟨1, _⟩ => show win0_7.index t 1 * 512 + 1 * k.val = _; rw [e1]; (try show _ = (512 * (t.val % 8) + k.val) % 4096); omega
  erw [he]
  pointwise

theorem b9 (c : Dev nD) (t : Fin cfg0.N) (r : Fin 1) (k : Fin 1024) :
    (iblk m c 9 t : FVec Ideal S1x1024 .f32) (ix2 r k) = (m ((c : Thread nD τ).loc main_arg9) : FVec Ideal S1x1024 .f32) (ix2 0 k) := by
  unfold iblk
  rw [View.read_apply]
  show (V m c main_v16 : FVec Ideal S1x1024 .f32) _ = _
  rw [V9]
  obtain ⟨e0, e1⟩ := idx9 t
  have ht : t.val < 128 := t.isLt
  have he : (((cfg0.win 9).blk t).view.emb (ix2 r k) : S1x1024.Idx) = ix2 0 k := by
    funext a; apply Fin.ext
    match a with
    | ⟨0, _⟩ => show win0_9.index t 0 * 1 + 1 * r.val = _; rw [e0]; (try show _ = 0); omega
    | ⟨1, _⟩ => show win0_9.index t 1 * 1024 + 1 * k.val = _; rw [e1]; (try show _ = k.val); omega
  erw [he]
  pointwise

theorem b10 (c : Dev nD) (t : Fin cfg0.N) (r : Fin 1) (k : Fin 1024) :
    (iblk m c 10 t : FVec Ideal S1x1024 .f32) (ix2 r k) = (m ((c : Thread nD τ).loc main_arg10) : FVec Ideal S1x1024 .f32) (ix2 0 k) := by
  unfold iblk
  rw [View.read_apply]
  show (V m c main_v18 : FVec Ideal S1x1024 .f32) _ = _
  rw [V10]
  obtain ⟨e0, e1⟩ := idx10 t
  have ht : t.val < 128 := t.isLt
  have he : (((cfg0.win 10).blk t).view.emb (ix2 r k) : S1x1024.Idx) = ix2 0 k := by
    funext a; apply Fin.ext
    match a with
    | ⟨0, _⟩ => show win0_10.index t 0 * 1 + 1 * r.val = _; rw [e0]; (try show _ = 0); omega
    | ⟨1, _⟩ => show win0_10.index t 1 * 1024 + 1 * k.val = _; rw [e1]; (try show _ = k.val); omega
  erw [he]
  pointwise

theorem b11 (c : Dev nD) (t : Fin cfg0.N) (r : Fin 1) (k : Fin 1024) :
    (iblk m c 11 t : FVec Ideal S1x1024 .f32) (ix2 r k) = (m ((c : Thread nD τ).loc main_arg11) : FVec Ideal S1x1024 .f32) (ix2 0 k) := by
  unfold iblk
  rw [View.read_apply]
  show (V m c main_v20 : FVec Ideal S1x1024 .f32) _ = _
  rw [V11]
  obtain ⟨e0, e1⟩ := idx11 t
  have ht : t.val < 128 := t.isLt
  have he : (((cfg0.win 11).blk t).view.emb (ix2 r k) : S1x1024.Idx) = ix2 0 k := by
    funext a; apply Fin.ext
    match a with
    | ⟨0, _⟩ => show win0_11.index t 0 * 1 + 1 * r.val = _; rw [e0]; (try show _ = 0); omega
    | ⟨1, _⟩ => show win0_11.index t 1 * 1024 + 1 * k.val = _; rw [e1]; (try show _ = k.val); omega
  erw [he]
  pointwise

end Cert.MlpIdeal.Blocks

end
-- ==== Proof.Mlp.Math.lean ====
/-
  The mathematics of the output projection and the MLP, over the extended reals: a row's LayerNorm, the residual
  stream after the output projection, the squared-ReLU units, the MLP's sum and the result. Both programs are
  read down to these functions of the arguments.
-/
module

public import Idealize.ShloMosaic.Lib.Pointwise

@[expose] public section

noncomputable section

namespace Cert.MlpMath

open Idealize.ShloMosaic

/-- The residual scale, as its `f32` word reads. -/
abbrev alpha : EReal := Ideal.ofBits .f32 0x3F9837F0#32
/-- The row length 1024. -/
abbrev len : EReal := Ideal.ofBits .f32 0x44800000#32
/-- The LayerNorm's epsilon. -/
abbrev eps : EReal := Ideal.ofBits .f32 0x3727C5AC#32

/-- The mean of a row of 1024. -/
def mean (y : Fin 1024 → EReal) : EReal := Ideal.div (∑ k, y k) len

/-- LayerNorm of a row `y` with gain `g` and bias `b`, at position `j`. -/
def ln (y g b : Fin 1024 → EReal) (j : Fin 1024) : EReal :=
  (y j - mean y) * Ideal.rsqrt (mean (fun k => (y k - mean y) * (y k - mean y)) + eps) * g j + b j

theorem ln_congr {y y' g g' b b' : Fin 1024 → EReal} (hy : ∀ k, y k = y' k) (hg : ∀ k, g k = g' k)
    (hb : ∀ k, b k = b' k) (j : Fin 1024) : ln y g b j = ln y' g' b' j := by
  rw [funext hy, funext hg, funext hb]

section Layer

variable (x : (⟨3, ![8, 2048, 1024]⟩ : Shape).Idx → EReal) (at' lr : (⟨3, ![8, 2048, 512]⟩ : Shape).Idx → EReal)
  (wo : (⟨3, ![1, 1024, 1024]⟩ : Shape).Idx → EReal) (g1 b1 : (⟨2, ![1, 1024]⟩ : Shape).Idx → EReal)
  (wu : (⟨3, ![1, 1024, 4096]⟩ : Shape).Idx → EReal) (bu : (⟨2, ![1, 4096]⟩ : Shape).Idx → EReal)
  (wd : (⟨3, ![1, 4096, 1024]⟩ : Shape).Idx → EReal) (bd g2 b2 : (⟨2, ![1, 1024]⟩ : Shape).Idx → EReal)

/-- The residual row after the output projection of the two branches' 512 features each. -/
def resid (n : Fin 8) (s : Fin 2048) (k : Fin 1024) : EReal :=
  alpha * x (ix3 n s k)
    + (∑ q : Fin 512, at' (ix3 n s q) * wo (ix3 0 ⟨q.val, by omega⟩ k)
      + ∑ q : Fin 512, lr (ix3 n s q) * wo (ix3 0 ⟨512 + q.val, by omega⟩ k))

/-- The first LayerNorm's output. -/
def hid (n : Fin 8) (s : Fin 2048) (k : Fin 1024) : EReal :=
  ln (resid x at' lr wo n s) (fun k => g1 (ix2 0 k)) (fun k => b1 (ix2 0 k)) k

/-- One of the 4096 hidden units: the squared ReLU of its pre-activation. -/
def unit (h : Fin 1024 → EReal) (u : Fin 4096) : EReal :=
  max (∑ k : Fin 1024, h k * wu (ix3 0 k u) + bu (ix2 0 u)) 0
    * max (∑ k : Fin 1024, h k * wu (ix3 0 k u) + bu (ix2 0 u)) 0

/-- What 512 consecutive units, those of tile `t`, add to feature `j`. -/
def tile (h : Fin 1024 → EReal) (t : ℕ) (j : Fin 1024) : EReal :=
  ∑ q : Fin 512, unit wu bu h ⟨(512 * (t % 8) + q.val) % 4096, Nat.mod_lt _ (by decide)⟩
    * wd (ix3 0 ⟨(512 * (t % 8) + q.val) % 4096, Nat.mod_lt _ (by decide)⟩ j)

/-- A tile's number counts modulo eight. -/
theorem tile_mod (h : Fin 1024 → EReal) (t : ℕ) (j : Fin 1024) :
    tile wu bu wd h t j = tile wu bu wd h (t % 8) j := by
  unfold tile; simp only [Nat.mod_mod]

/-- The MLP's sum over the 4096 units. -/
def mlp (h : Fin 1024 → EReal) (j : Fin 1024) : EReal :=
  ∑ u : Fin 4096, unit wu bu h u * wd (ix3 0 u j)

/-- The eight tiles add up to the sum over all units. -/
theorem sum_tile (h : Fin 1024 → EReal) (j : Fin 1024) :
    ∑ t ∈ Finset.range 8, tile wu bu wd h t j = mlp wu bu wd h j := by
  rw [Finset.sum_range]
  unfold tile mlp
  rw [← Fintype.sum_prod_type']
  refine Fintype.sum_equiv (finProdFinEquiv : Fin 8 × Fin 512 ≃ Fin (8 * 512)) _ _ fun p => ?_
  have hp : (⟨(512 * (p.1.val % 8) + p.2.val) % 4096, Nat.mod_lt _ (by decide)⟩ : Fin 4096) = finProdFinEquiv p := by
    apply Fin.ext
    show (512 * (p.1.val % 8) + p.2.val) % 4096 = p.2.val + 512 * p.1.val
    have := p.1.isLt; have := p.2.isLt; omega
  rw [hp]

/-- The layer's result at sequence `n`, position `s`, feature `j`. -/
def out (n : Fin 8) (s : Fin 2048) (j : Fin 1024) : EReal :=
  ln (fun k => alpha * hid x at' lr wo g1 b1 n s k + mlp wu bu wd (hid x at' lr wo g1 b1 n s) k + bd (ix2 0 k))
    (fun k => g2 (ix2 0 k)) (fun k => b2 (ix2 0 k)) j

variable {x at' lr wo g1 b1 wu bu wd bd g2 b2} in
theorem out_congr {x_ at_ lr_ wo_ g1_ b1_ wu_ bu_ wd_ bd_ g2_ b2_}
    (h0 : x_ = x) (h1 : at_ = at') (h2 : lr_ = lr) (h3 : wo_ = wo) (h4 : g1_ = g1) (h5 : b1_ = b1) (h6 : wu_ = wu) (h7 : bu_ = bu) (h8 : wd_ = wd) (h9 : bd_ = bd) (h10 : g2_ = g2) (h11 : b2_ = b2)
    (n : Fin 8) (s : Fin 2048) (j : Fin 1024) :
    out x_ at_ lr_ wo_ g1_ b1_ wu_ bu_ wd_ bd_ g2_ b2_ n s j = out x at' lr wo g1 b1 wu bu wd bd g2 b2 n s j := by
  subst h0 h1 h2 h3 h4 h5 h6 h7 h8 h9 h10 h11
  rfl

end Layer

end Cert.MlpMath

end
-- ==== Proof.Mlp.Payload.lean ====
/-
  What the kernel's stores compute, read at an index: the projection, residual and first LayerNorm of a row, a
  tile's part of the MLP's sum, and the second residual and LayerNorm.
-/
module

public import proofs.«01_k».proof.Proof.Gen.MlpIdeal.Value
public import proofs.«01_k».proof.Proof.Mlp.Math

@[expose] public section

set_option maxRecDepth 16384

noncomputable section

namespace Cert.MlpIdeal.Payload

open Cert.MlpIdeal Cert.MlpIdeal.Gen Idealize.ShloMosaic
open Cert.MlpMath

abbrev A (S : Shape) (dt : FTy) := FVec Ideal S dt

theorem x1 (a l : A S1024x512 .bf16) (wa wl : A S512x1024 .bf16) (x : A S1024x1024 .f32) (g b : A S1x1024 .f32)
    (r j : Fin 1024) :
    k0_pay2 (F := Ideal) (k0_pay7 (F := Ideal) b) (k0_pay8 (F := Ideal) a wa l wl x g) (ix2 r j)
      = ln (fun k => alpha * x (ix2 r k)
          + (∑ q : Fin 512, a (ix2 r q) * wa (ix2 q k) + ∑ q : Fin 512, l (ix2 r q) * wl (ix2 q k)))
        (fun k => g (ix2 0 k)) (fun k => b (ix2 0 k)) j := by
  unfold ln mean
  pointwise [k0_pay2, k0_pay1, k0_pay7, k0_pay8]

theorem x1b (a l : A S1024x512 .bf16) (wa wl : A S512x1024 .bf16) (x : A S1024x1024 .f32) (g b : A S1x1024 .f32)
    (r j : Fin 1024) :
    k0_pay3 (F := Ideal) (k0_pay7 (F := Ideal) b) (k0_pay8 (F := Ideal) a wa l wl x g) (ix2 r j)
      = ln (fun k => alpha * x (ix2 r k)
          + (∑ q : Fin 512, a (ix2 r q) * wa (ix2 q k) + ∑ q : Fin 512, l (ix2 r q) * wl (ix2 q k)))
        (fun k => g (ix2 0 k)) (fun k => b (ix2 0 k)) j := by
  unfold ln mean
  pointwise [k0_pay3, k0_pay2, k0_pay1, k0_pay7, k0_pay8]

theorem zero (i : S1024x1024.Idx) : k0_pay4 (F := Ideal) i = 0 := by
  pointwise [k0_pay4]

theorem acc (h : A S1024x1024 .bf16) (wu : A S1024x512 .bf16) (bu : A S1x512 .f32) (ac : A S1024x1024 .f32)
    (wd : A S512x1024 .bf16) (r j : Fin 1024) :
    k0_pay5 (F := Ideal) h wu bu ac wd (ix2 r j)
      = ac (ix2 r j) + ∑ x : Fin 512,
          max (∑ k : Fin 1024, h (ix2 r k) * wu (ix2 k x) + bu (ix2 0 x)) 0
            * max (∑ k : Fin 1024, h (ix2 r k) * wu (ix2 k x) + bu (ix2 0 x)) 0 * wd (ix2 x j) := by
  pointwise [k0_pay5]

theorem out (h ac : A S1024x1024 .f32) (bd g b : A S1x1024 .f32) (r j : Fin 1024) :
    k0_pay6 (F := Ideal) h ac bd g b (ix2 r j)
      = ln (fun k => alpha * h (ix2 r k) + ac (ix2 r k) + bd (ix2 0 k)) (fun k => g (ix2 0 k)) (fun k => b (ix2 0 k)) j := by
  unfold ln mean
  pointwise [k0_pay6]

end Cert.MlpIdeal.Payload

end
-- ==== Proof.Mlp.Kernel.lean ====
/-
  The output-projection and MLP kernel's result, as the layer's function of its arguments. Along a row block's
  eight points the normalised rows stay as the first point wrote them, and the accumulator holds the sum of the
  tiles met so far; at the last point it is the sum over all 4096 units.
-/
module

public import proofs.«01_k».proof.Proof.Mlp.Cases
public import proofs.«01_k».proof.Proof.Mlp.Blocks
public import proofs.«01_k».proof.Proof.Mlp.Payload

@[expose] public section

set_option maxRecDepth 16384

noncomputable section

namespace Cert.MlpIdeal.Kernel

open Cert.MlpIdeal Cert.MlpIdeal.Gen Idealize.ShloMosaic Idealize.ShloMosaic.TcCoe Idealize.SL.Sem
open Cert.MlpIdeal.Blocks Cert.MlpMath

variable (m : (ℓ : Loc nD τ sig) → Buf (Elt Ideal) ℓ) (c : Dev nD)

abbrev x0 : FVec Ideal S8x2048x1024 .f32 := m ((c : Thread nD τ).loc main_arg0)
abbrev x1 : FVec Ideal S8x2048x512 .bf16 := m ((c : Thread nD τ).loc main_arg1)
abbrev x2 : FVec Ideal S8x2048x512 .bf16 := m ((c : Thread nD τ).loc main_arg2)
abbrev x3 : FVec Ideal S1x1024x1024 .f32 := m ((c : Thread nD τ).loc main_arg3)
abbrev x4 : FVec Ideal S1x1024 .f32 := m ((c : Thread nD τ).loc main_arg4)
abbrev x5 : FVec Ideal S1x1024 .f32 := m ((c : Thread nD τ).loc main_arg5)
abbrev x6 : FVec Ideal S1x1024x4096 .f32 := m ((c : Thread nD τ).loc main_arg6)
abbrev x7 : FVec Ideal S1x4096 .f32 := m ((c : Thread nD τ).loc main_arg7)
abbrev x8 : FVec Ideal S1x4096x1024 .f32 := m ((c : Thread nD τ).loc main_arg8)
abbrev x9 : FVec Ideal S1x1024 .f32 := m ((c : Thread nD τ).loc main_arg9)
abbrev x10 : FVec Ideal S1x1024 .f32 := m ((c : Thread nD τ).loc main_arg10)
abbrev x11 : FVec Ideal S1x1024 .f32 := m ((c : Thread nD τ).loc main_arg11)

/-- The normalised row at the arguments. -/
def hidA (n : Fin 8) (s : Fin 2048) (k : Fin 1024) : EReal :=
  hid (x0 m c) (x1 m c) (x2 m c) (x3 m c) (x4 m c) (x5 m c) n s k

/-- The result at the arguments. -/
def outA (n : Fin 8) (s : Fin 2048) (k : Fin 1024) : EReal :=
  out (x0 m c) (x1 m c) (x2 m c) (x3 m c) (x4 m c) (x5 m c) (x6 m c) (x7 m c) (x8 m c) (x9 m c) (x10 m c) (x11 m c) n s k

/-- The projection's weights for the attention's features, and for the recurrence's. -/
def lo (w : FVec Ideal S1024x1024 .bf16) : FVec Ideal S512x1024 .bf16 := fun i =>
  w ((Rect.unit (s := S1024x1024) ![0, 0] ![512, 1024] inb_S1024x1024_S512x1024_0_0).idx i)
def hi (w : FVec Ideal S1024x1024 .bf16) : FVec Ideal S512x1024 .bf16 := fun i =>
  w ((Rect.unit (s := S1024x1024) ![512, 0] ![512, 1024] inb_S1024x1024_S512x1024_512_0).idx i)

theorem lo_apply (w : FVec Ideal S1024x1024 .bf16) (q : Fin 512) (k : Fin 1024) :
    lo w (ix2 q k) = w (ix2 ⟨q.val, by omega⟩ k) := by
  refine congrArg w (funext fun a => Fin.ext ?_)
  match a with
  | ⟨0, _⟩ => show 0 + 1 * q.val = q.val; omega
  | ⟨1, _⟩ => show 0 + 1 * k.val = k.val; omega

theorem hi_apply (w : FVec Ideal S1024x1024 .bf16) (q : Fin 512) (k : Fin 1024) :
    hi w (ix2 q k) = w (ix2 ⟨512 + q.val, by omega⟩ k) := by
  refine congrArg w (funext fun a => Fin.ext ?_)
  match a with
  | ⟨0, _⟩ => show 512 + 1 * q.val = 512 + q.val; omega
  | ⟨1, _⟩ => show 0 + 1 * k.val = k.val; omega

/-- The blocks a point reads, at their literal types. -/
abbrev i0 (t : Fin cfg0.N) : FVec Ideal S1024x1024 .f32 := iblk m c 0 t
abbrev i1 (t : Fin cfg0.N) : FVec Ideal S1024x512 .bf16 := iblk m c 1 t
abbrev i2 (t : Fin cfg0.N) : FVec Ideal S1024x512 .bf16 := iblk m c 2 t
abbrev i3 (t : Fin cfg0.N) : FVec Ideal S1024x1024 .bf16 := iblk m c 3 t
abbrev i4 (t : Fin cfg0.N) : FVec Ideal S1x1024 .f32 := iblk m c 4 t
abbrev i5 (t : Fin cfg0.N) : FVec Ideal S1x1024 .f32 := iblk m c 5 t

/-- The first LayerNorm of the blocks is the arguments' normalised row. -/
theorem ln_blocks (t : Fin cfg0.N) (r j : Fin 1024) :
    ln (fun k => alpha * i0 m c t (ix2 r k)
        + (∑ q : Fin 512, i1 m c t (ix2 r q) * lo (i3 m c t) (ix2 q k)
          + ∑ q : Fin 512, i2 m c t (ix2 r q) * hi (i3 m c t) (ix2 q k)))
      (fun k => i4 m c t (ix2 0 k)) (fun k => i5 m c t (ix2 0 k)) j
      = hidA m c (rowN t r) (rowS t r) j := by
  unfold hidA hid
  refine ln_congr (fun k => ?_) (fun k => b4 m c t 0 k) (fun k => b5 m c t 0 k) j
  unfold resid
  refine congrArg₂ (· + ·) (congrArg (alpha * ·) (b0 m c t r k)) (congrArg₂ (· + ·) ?_ ?_)
  · exact Finset.sum_congr rfl fun q _ => congrArg₂ (· * ·) (b1 m c t r q) ((lo_apply _ q k).trans (b3 m c t _ k))
  · exact Finset.sum_congr rfl fun q _ => congrArg₂ (· * ·) (b2 m c t r q) ((hi_apply _ q k).trans (b3 m c t _ k))

/-- The normalised rows as the first point computes them. -/
def rows (t : Fin cfg0.N) : FVec Ideal S1024x1024 .f32 :=
  k0_pay2 (F := Ideal) (k0_pay7 (F := Ideal) (i5 m c t))
    (k0_pay8 (F := Ideal) (i1 m c t) (lo (i3 m c t)) (i2 m c t) (hi (i3 m c t)) (i0 m c t) (i4 m c t))
def rowsB (t : Fin cfg0.N) : FVec Ideal S1024x1024 .bf16 :=
  k0_pay3 (F := Ideal) (k0_pay7 (F := Ideal) (i5 m c t))
    (k0_pay8 (F := Ideal) (i1 m c t) (lo (i3 m c t)) (i2 m c t) (hi (i3 m c t)) (i0 m c t) (i4 m c t))

theorem rows_apply (t : Fin cfg0.N) (r j : Fin 1024) : rows m c t (ix2 r j) = hidA m c (rowN t r) (rowS t r) j :=
  (Payload.x1 _ _ _ _ _ _ _ r j).trans (ln_blocks m c t r j)
theorem rowsB_apply (t : Fin cfg0.N) (r j : Fin 1024) : rowsB m c t (ix2 r j) = hidA m c (rowN t r) (rowS t r) j :=
  (Payload.x1b _ _ _ _ _ _ _ r j).trans (ln_blocks m c t r j)

theorem first1 (t : Fin cfg0.N) (h0 : t.val % 8 = 0) : (outsAt0 m c t.val t.isLt).2.1 = rows m c t := by
  rw [Cases.first_x1 m c t h0 (by omega)]; unfold rows; congr 2 <;> rfl

theorem first1b (t : Fin cfg0.N) (h0 : t.val % 8 = 0) : (outsAt0 m c t.val t.isLt).2.2.1 = rowsB m c t := by
  rw [Cases.first_x1b m c t h0 (by omega)]; unfold rowsB; congr 2 <;> rfl

theorem first2 (t : Fin cfg0.N) (h0 : t.val % 8 = 0) :
    (outsAt0 m c t.val t.isLt).2.2.2
      = k0_pay5 (F := Ideal) (rowsB m c t) (iblk m c 6 t) (iblk m c 7 t) (k0_pay4 (F := Ideal)) (iblk m c 8 t) := by
  rw [Cases.first_acc m c t h0 (by omega)]; unfold rowsB; congr 3 <;> rfl

/-- A point's tile of the MLP's sum. -/
theorem acc_tile (t : Fin cfg0.N) (h : FVec Ideal S1024x1024 .bf16) (ac : FVec Ideal S1024x1024 .f32) (r j : Fin 1024) :
    k0_pay5 (F := Ideal) h (iblk m c 6 t) (iblk m c 7 t) ac (iblk m c 8 t) (ix2 r j)
      = ac (ix2 r j) + tile (x6 m c) (x7 m c) (x8 m c) (fun k => h (ix2 r k)) t.val j := by
  refine (Payload.acc _ _ _ _ _ r j).trans (congrArg (ac (ix2 r j) + ·) ?_)
  unfold tile
  refine Finset.sum_congr rfl fun x _ => ?_
  have hp : (∑ k : Fin 1024, h (ix2 r k) * (iblk m c 6 t : FVec Ideal S1024x512 .bf16) (ix2 k x)
      + (iblk m c 7 t : FVec Ideal S1x512 .f32) (ix2 0 x) : EReal)
      = ∑ k : Fin 1024, h (ix2 r k) * x6 m c (ix3 0 k (unitOf t x)) + x7 m c (ix2 0 (unitOf t x)) :=
    congrArg₂ (· + ·) (Finset.sum_congr rfl fun k _ => congrArg (h (ix2 r k) * ·) (b6 m c t k x)) (b7 m c t 0 x)
  have hd : (iblk m c 8 t : FVec Ideal S512x1024 .bf16) (ix2 x j) = x8 m c (ix3 0 (unitOf t x) j) := b8 m c t x j
  unfold unit
  erw [hp, hd]

/-- What the three scratch buffers hold after a point. -/
theorem sweep : ∀ (n : ℕ) (hn : n < cfg0.N) (r j : Fin 1024),
    ((outsAt0 m c n hn).2.1 : FVec Ideal S1024x1024 .f32) (ix2 r j) = hidA m c (rowN ⟨n, hn⟩ r) (rowS ⟨n, hn⟩ r) j
    ∧ ((outsAt0 m c n hn).2.2.1 : FVec Ideal S1024x1024 .bf16) (ix2 r j) = hidA m c (rowN ⟨n, hn⟩ r) (rowS ⟨n, hn⟩ r) j
    ∧ (n % 8 ≠ 7 → ((outsAt0 m c n hn).2.2.2 : FVec Ideal S1024x1024 .f32) (ix2 r j)
        = ∑ t ∈ Finset.range (n % 8 + 1), tile (x6 m c) (x7 m c) (x8 m c) (hidA m c (rowN ⟨n, hn⟩ r) (rowS ⟨n, hn⟩ r)) t j) := by
  intro n
  induction n with
  | zero =>
    intro hn r j
    refine ⟨by rw [first1 m c ⟨0, hn⟩ rfl]; exact rows_apply m c _ r j,
      by rw [first1b m c ⟨0, hn⟩ rfl]; exact rowsB_apply m c _ r j, fun _ => ?_⟩
    rw [first2 m c ⟨0, hn⟩ rfl]
    refine (acc_tile m c ⟨0, hn⟩ _ _ r j).trans ?_
    erw [Payload.zero, zero_add, Finset.sum_range_one]
    exact congrArg (fun h => tile (x6 m c) (x7 m c) (x8 m c) h 0 j) (funext fun k => rowsB_apply m c ⟨0, hn⟩ r k)
  | succ n ih =>
    intro hn r j
    have hn' : n < cfg0.N := Nat.lt_of_succ_lt hn
    by_cases h0 : (n + 1) % 8 = 0
    · refine ⟨by rw [first1 m c ⟨n + 1, hn⟩ h0]; exact rows_apply m c _ r j,
        by rw [first1b m c ⟨n + 1, hn⟩ h0]; exact rowsB_apply m c _ r j, fun _ => ?_⟩
      rw [first2 m c ⟨n + 1, hn⟩ h0]
      refine (acc_tile m c ⟨n + 1, hn⟩ _ _ r j).trans ?_
      erw [Payload.zero, zero_add, h0, Finset.sum_range_one]
      rw [tile_mod]
      show tile _ _ _ _ ((n + 1) % 8) j = tile _ _ _ _ 0 j
      rw [h0]
      exact congrArg (fun h => tile (x6 m c) (x7 m c) (x8 m c) h 0 j) (funext fun k => rowsB_apply m c ⟨n + 1, hn⟩ r k)
    · have hN : rowN ⟨n + 1, hn⟩ r = rowN ⟨n, hn'⟩ r := Fin.ext (by
        show (1024 * ((n + 1) / 8) + r.val) / 2048 % 8 = (1024 * (n / 8) + r.val) / 2048 % 8
        rw [show (n + 1) / 8 = n / 8 by omega])
      have hS : rowS ⟨n + 1, hn⟩ r = rowS ⟨n, hn'⟩ r := Fin.ext (by
        show (1024 * ((n + 1) / 8) + r.val) % 2048 = (1024 * (n / 8) + r.val) % 2048
        rw [show (n + 1) / 8 = n / 8 by omega])
      obtain ⟨i1, i2, i3⟩ := ih hn' r j
      rw [hN, hS]
      by_cases h1 : (n + 1) % 8 = 7
      · refine ⟨?_, ?_, fun h => absurd h1 h⟩
        · rw [← i1, outsAt0_C m c ⟨n + 1, hn⟩ h0 h1]; rfl
        · rw [← i2, outsAt0_C m c ⟨n + 1, hn⟩ h0 h1]; rfl
      · refine ⟨?_, ?_, fun _ => ?_⟩
        · rw [Cases.mid_x1 m c ⟨n + 1, hn⟩ h0 h1 hn']; exact i1
        · rw [Cases.mid_x1b m c ⟨n + 1, hn⟩ h0 h1 hn']; exact i2
        · rw [Cases.mid_acc m c ⟨n + 1, hn⟩ h0 h1 hn']
          refine (acc_tile m c ⟨n + 1, hn⟩ _ _ r j).trans ?_
          rw [show (n + 1) % 8 + 1 = (n % 8 + 1) + 1 by omega, Finset.sum_range_succ]
          refine congrArg₂ (· + ·) (i3 (by omega)) ?_
          have hh : (fun k => ((outsAt0 m c n hn').2.2.1 : FVec Ideal S1024x1024 .bf16) (ix2 r k))
              = hidA m c (rowN ⟨n, hn'⟩ r) (rowS ⟨n, hn'⟩ r) := funext fun k => (ih hn' r k).2.1
          rw [tile_mod, tile_mod _ _ _ _ (n % 8 + 1)]
          show tile _ _ _ (fun k => ((outsAt0 m c n hn').2.2.1 : FVec Ideal S1024x1024 .bf16) (ix2 r k)) ((n + 1) % 8) j = tile _ _ _ _ ((n % 8 + 1) % 8) j
          rw [hh, show (n % 8 + 1) % 8 = (n + 1) % 8 by omega]

/-- What the last point of a row block writes. -/
theorem last (t : Fin cfg0.N) (h1 : t.val % 8 = 7) (r j : Fin 1024) :
    ((outsAt0 m c t.val t.isLt).1 : FVec Ideal S1024x1024 .f32) (ix2 r j) = outA m c (rowN t r) (rowS t r) j := by
  have ht' : t.val - 1 < cfg0.N := Nat.lt_of_le_of_lt (Nat.sub_le _ _) t.isLt
  have hN : rowN ⟨t.val - 1, ht'⟩ r = rowN t r := Fin.ext (by
    show (1024 * ((t.val - 1) / 8) + r.val) / 2048 % 8 = (1024 * (t.val / 8) + r.val) / 2048 % 8
    rw [show (t.val - 1) / 8 = t.val / 8 by omega])
  have hS : rowS ⟨t.val - 1, ht'⟩ r = rowS t r := Fin.ext (by
    show (1024 * ((t.val - 1) / 8) + r.val) % 2048 = (1024 * (t.val / 8) + r.val) % 2048
    rw [show (t.val - 1) / 8 = t.val / 8 by omega])
  rw [Cases.last_out m c t (by omega) h1 ht']
  refine (Payload.out _ _ _ _ _ r j).trans ?_
  unfold outA out
  refine ln_congr (fun k => ?_) (fun k => b10 m c t 0 k) (fun k => b11 m c t 0 k) j
  have e1 := (sweep m c (t.val - 1) ht' r k).1
  have e3 := (sweep m c (t.val - 1) ht' r k).2.2 (by omega)
  rw [hN, hS] at e1 e3
  refine congrArg₂ (· + ·) (congrArg₂ (· + ·) (congrArg (alpha * ·) e1) ?_) (b9 m c t 0 k)
  refine (acc_tile m c t _ _ r k).trans ?_
  have hh : (fun k => ((outsAt0 m c (t.val - 1) ht').2.2.1 : FVec Ideal S1024x1024 .bf16) (ix2 r k))
      = hidA m c (rowN t r) (rowS t r) := funext fun k => by
    have e := (sweep m c (t.val - 1) ht' r k).2.1
    rwa [hN, hS] at e
  erw [hh, e3]
  show _ = mlp (x6 m c) (x7 m c) (x8 m c) (hidA m c (rowN t r) (rowS t r)) k
  have h8 : Finset.range 8 = Finset.range ((t.val - 1) % 8 + 1 + 1) := congrArg Finset.range (by omega)
  rw [← sum_tile, h8, tile_mod _ _ _ _ t.val, show t.val % 8 = (t.val - 1) % 8 + 1 by omega]
  exact (Finset.sum_range_succ _ _).symm

/-- The kernel's result array. -/
theorem result (i : S16384x1024.Idx) :
    (Value.G12 m c : FVec Ideal S16384x1024 .f32) i
      = outA m c ⟨(i 0).val / 2048, by have : (i 0).val < 16384 := (i 0).isLt; omega⟩
          ⟨(i 0).val % 2048, Nat.mod_lt _ (by decide)⟩ ⟨(i 1).val, (i 1).isLt⟩ := by
  have h0 : (i 0).val < 16384 := (i 0).isLt
  have h1 : (i 1).val < 1024 := (i 1).isLt
  have hrun : Value.pt12Of i = 8 * ((i 0).val / 1024) + 7 := by
    show 8 * (1 * ((i 0).val / 1024 - 0) + 1 * ((i 1).val / 1024 - 0)) + 7 = _; omega
  have hp : Value.pt12Of i < cfg0.N := by show Value.pt12Of i < 128; omega
  have hu : (Value.G12 m c : FVec Ideal S16384x1024 .f32) i
      = ((outsAt0 m c (Value.pt12Of i) hp).1 : FVec Ideal S1024x1024 .f32) (Value.loc12Of i) := by
    rw [Value.outsAt0_sweep m c _ hp]
    unfold Value.G12
    rw [dif_pos hp]
  rw [hu]
  have hl : (Value.loc12Of i : S1024x1024.Idx)
      = ix2 ⟨(i 0).val % 1024, Nat.mod_lt _ (by decide)⟩ ⟨(i 1).val % 1024, Nat.mod_lt _ (by decide)⟩ := by
    funext a
    match a with
    | ⟨0, _⟩ => rfl
    | ⟨1, _⟩ => rfl
  erw [hl]
  refine (last m c ⟨Value.pt12Of i, hp⟩ (by show Value.pt12Of i % 8 = 7; omega) _ _).trans ?_
  have a1 : rowN ⟨Value.pt12Of i, hp⟩ ⟨(i 0).val % 1024, Nat.mod_lt _ (by decide)⟩ = ⟨(i 0).val / 2048, by omega⟩ := Fin.ext (by
    show (1024 * (Value.pt12Of i / 8) + (i 0).val % 1024) / 2048 % 8 = (i 0).val / 2048
    omega)
  have a2 : rowS ⟨Value.pt12Of i, hp⟩ ⟨(i 0).val % 1024, Nat.mod_lt _ (by decide)⟩ = ⟨(i 0).val % 2048, Nat.mod_lt _ (by decide)⟩ := Fin.ext (by
    show (1024 * (Value.pt12Of i / 8) + (i 0).val % 1024) % 2048 = (i 0).val % 2048
    omega)
  rw [a1, a2]
  congr 1
  exact Fin.ext (by show (i 1).val % 1024 = (i 1).val; omega)

end Cert.MlpIdeal.Kernel

end
-- ==== Proof.Mlp.Ref.lean ====
/-
  The reference for the output projection and the MLP, read at an index down to the layer's function of the
  arguments, one stage after another.
-/
module

public import proofs.«01_k».proof.Proof.Gen.MlpRefIdeal.Read
public import proofs.«01_k».proof.Proof.Mlp.Math

@[expose] public section

set_option maxRecDepth 16384

noncomputable section

namespace Cert.MlpRefIdeal.Ref

open Cert.MlpRefIdeal Cert.MlpRefIdeal.Gen Idealize.ShloMosaic
open Cert.MlpRefIdeal.Read Cert.MlpMath

variable (x0 : FVec Ideal S8x2048x1024 .f32) (x1 x2 : FVec Ideal S8x2048x512 .bf16) (x3 : FVec Ideal S1x1024x1024 .f32)
  (x4 x5 : FVec Ideal S1x1024 .f32) (x6 : FVec Ideal S1x1024x4096 .f32) (x7 : FVec Ideal S1x4096 .f32)
  (x8 : FVec Ideal S1x4096x1024 .f32) (x9 x10 x11 : FVec Ideal S1x1024 .f32)

theorem resid_eq (n : Fin 8) (s : Fin 2048) (j : Fin 1024) :
    val_main_v7 (F := Ideal) x0 x1 x2 x3 (ix3 n s j) = resid x0 x1 x2 x3 n s j := by
  unfold resid
  pointwise [val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11]

theorem hid_eq (n : Fin 8) (s : Fin 2048) (j : Fin 1024) :
    val_main_v33 (F := Ideal) x0 x1 x2 x3 x4 x5 (ix3 n s j) = hid x0 x1 x2 x3 x4 x5 n s j := by
  unfold hid ln mean
  simp only [← resid_eq]
  generalize hy : val_main_v7 (F := Ideal) x0 x1 x2 x3 = y
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, val_main_cst_2, val_main_cst_3, val_main_cst_4, val_main_cst_5, val_main_cst_6, val_main_cst_7, val_main_cst_8, val_main_cst_9, val_main_cst_10, val_main_cst_11]
  simp only [hy]

theorem resid2_eq (n : Fin 8) (s : Fin 2048) (j : Fin 1024) :
    val_main_v51 (F := Ideal) x0 x1 x2 x3 x4 x5 x6 x7 x8 x9 (ix3 n s j)
      = alpha * hid x0 x1 x2 x3 x4 x5 n s j + mlp x6 x7 x8 (hid x0 x1 x2 x3 x4 x5 n s) j + x9 (ix2 0 j) := by
  unfold mlp unit
  simp only [← hid_eq]
  rw [add_assoc]
  generalize hy : val_main_v33 (F := Ideal) x0 x1 x2 x3 x4 x5 = y
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst, val_main_cst_0, val_main_cst_1, val_main_cst_2, val_main_cst_3, val_main_cst_4, val_main_cst_5, val_main_cst_6, val_main_cst_7, val_main_cst_8, val_main_cst_9, val_main_cst_10, val_main_cst_11]
  simp only [hy]

theorem out_eq (n : Fin 8) (s : Fin 2048) (j : Fin 1024) :
    val_main_v77 (F := Ideal) x0 x1 x2 x3 x4 x5 x6 x7 x8 x9 x10 x11 (ix3 n s j)
      = out x0 x1 x2 x3 x4 x5 x6 x7 x8 x9 x10 x11 n s j := by
  unfold out ln mean
  simp only [← resid2_eq]
  generalize hy : val_main_v51 (F := Ideal) x0 x1 x2 x3 x4 x5 x6 x7 x8 x9 = y
  pointwise [val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_cst, val_main_cst_0, val_main_cst_1, val_main_cst_2, val_main_cst_3, val_main_cst_4, val_main_cst_5, val_main_cst_6, val_main_cst_7, val_main_cst_8, val_main_cst_9, val_main_cst_10, val_main_cst_11]
  simp only [hy]

/-- The reference's result array. -/
theorem result (i : S16384x1024.Idx) :
    val_main_v78 (F := Ideal) x0 x1 x2 x3 x4 x5 x6 x7 x8 x9 x10 x11 i
      = out x0 x1 x2 x3 x4 x5 x6 x7 x8 x9 x10 x11
          ⟨(i 0).val / 2048, by have : (i 0).val < 16384 := (i 0).isLt; omega⟩
          ⟨(i 0).val % 2048, Nat.mod_lt _ (by decide)⟩ ⟨(i 1).val, (i 1).isLt⟩ := by
  have h0 : (i 0).val < 16384 := (i 0).isLt
  have h1 : (i 1).val < 1024 := (i 1).isLt
  rw [← out_eq]
  unfold val_main_v78
  generalize val_main_v77 (F := Ideal) x0 x1 x2 x3 x4 x5 x6 x7 x8 x9 x10 x11 = y
  refine shapeCast_apply y shapeCasts_S8x2048x1024_S16384x1024 i _ ?_
  rw [Shape.rowMajor_val_three, Shape.rowMajor_val_two]
  show ((i 0).val / 2048 * 2048 + (i 0).val % 2048) * 1024 + (i 1).val = (i 0).val * 1024 + (i 1).val
  omega

end Cert.MlpRefIdeal.Ref

end
-- ==== Proof.Mlp.Value.lean ====
/-
  The output-projection and MLP kernel and its reference leave the same array: each is the layer's function of the
  arguments.
-/
module

public import proofs.«01_k».proof.Defs
public import proofs.«01_k».proof.Proof.Mlp.Kernel
public import proofs.«01_k».proof.Proof.Mlp.Ref

@[expose] public section

set_option maxRecDepth 16384

noncomputable section

namespace Cert.MlpValue

open Idealize.ShloMosaic Idealize.SL.Sem

theorem algebraic : Cert.algebraic_MlpIdeal_MlpRefIdeal (hMlpIdeal := Cert.MlpIdeal.Gen.facts)
    (hMlpRefIdeal := Cert.MlpRefIdeal.Gen.facts) := by
  intro m g m' g' _ hargs
  refine ⟨fun c => Cert.MlpIdeal.Value.G12 m c, Cert.MlpIdeal.Value.run m g, ?_⟩
  refine θ_run_mono (Cert.MlpRefIdeal.Value.run m' g') (fun r h c => ?_)
  obtain ⟨hres, hkept⟩ := h c
  refine ⟨?_, hkept⟩
  obtain ⟨h0, h1, h2, h3, h4, h5, h6, h7, h8, h9, h10, h11⟩ := hargs c
  refine hres.trans ?_
  refine (Cert.MlpRefIdeal.Read.val_main_v78_eq (F := Ideal) (StableHlo.launchContents m' c)).trans ?_
  funext i
  refine (Cert.MlpRefIdeal.Ref.result _ _ _ _ _ _ _ _ _ _ _ _ i).trans (Eq.trans ?_ (Cert.MlpIdeal.Kernel.result m c i).symm)
  exact Cert.MlpMath.out_congr h0 h1 h2 h3 h4 h5 h6 h7 h8 h9 h10 h11 _ _ _

end Cert.MlpValue

end
-- ==== Proof.Lru.Rules.lean ====
/-
  Loading from and storing to a buffer whose contents are stated as a function of the position.
-/
module

public import Idealize.ShloMosaic.Lib.Memref
public import Idealize.ShloMosaic.Lib.Writes
public import Idealize.ShloMosaic.Lib.Scf
public import Idealize.ShloMosaic.Lib.Pipeline
public import Idealize.ShloMosaic.Lib.Tactic

@[expose] public section

namespace Cert.LruRules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}

/-- A load of a rectangle of a buffer that holds `X` gives any `v` that agrees with `X` on the
    rectangle, and leaves the buffer as it was. -/
theorem load_owns {cs : CoreSpace} {m : Memref sig c.2.kind cs s e} {r : Rect s} {hl : m.view.LoadsAt r.toLoadRect}
    {q : PosShare TreeShare} {X : s.Idx → Val e} (v : r.shape.Idx → Val e) (hv : ∀ x, X (r.idx x) = v x)
    {Q : (r.shape.Idx → Val e) → sProp (MT nD τ sig Ix Val Name U Lvl)} :
    iprop(owns c m q X ∗ (owns c m q X -∗ Q v))
      ⊢ wp frame (wpE defs 𝒱 c bd) E (Prog.lift (.load m r.toLoadRect hl)) Q := by
  have hsub : m.view.setOn r.toLoadRect.set ⊆ m.view.set := by
    intro i hi
    obtain ⟨x, _, rfl⟩ := Finset.mem_map.mp hi
    exact Finset.mem_map.mpr ⟨x, Finset.mem_univ _, rfl⟩
  unfold owns
  iintro ⟨⟨%f, %hf, H⟩, HK⟩
  ihave HW := (wp_load (defs := defs) 𝒱 c bd E (hl := hl) (k := fun x => Prog.ret x) (Q := Q) hsub) $$ H
  iapply HW
  iintro H
  have hr : m.view.readAt Val r.toLoadRect f = v := by
    funext x
    rw [View.readAt_apply, hf]; exact hv x
  rw [hr, wp_ret]
  imodintro
  iapply HK
  iexists f
  isplitr
  · ipureintro; exact hf
  iexact H

/-- A store of a rectangle of a buffer that holds `X` leaves any `Y` that is the payload on the
    rectangle and `X` elsewhere. -/
theorem store_owns {cs : CoreSpace} {m : Memref sig c.2.kind cs s e} {r : Rect s} {w : r.shape.Idx → Val e}
    {hx : (m.access r).Stores Finset.univ} {hm : Finset.univ = Finset.univ ∨ ∀ a, r.stride a = 1}
    {X : s.Idx → Val e} (Y : s.Idx → Val e) (h1 : ∀ x, Y (r.idx x) = w x)
    (h2 : ∀ y, y ∉ r.set → Y y = X y)
    {Q : PUnit → sProp (MT nD τ sig Ix Val Name U Lvl)} :
    iprop(owns c m fullShare X ∗ (owns c m fullShare Y -∗ Q ⟨⟩))
      ⊢ wp frame (wpE defs 𝒱 c bd) E (Prog.lift (.store m r w Finset.univ hx hm)) Q := by
  have hsub : (m.access r).set ⊆ m.view.set := by
    intro i hi
    obtain ⟨x, _, rfl⟩ := Finset.mem_map.mp hi
    exact Finset.mem_map.mpr ⟨r.idx x, Finset.mem_univ _, rfl⟩
  unfold owns
  iintro ⟨⟨%f, %hf, H⟩, HK⟩
  ihave HW := (wp_store_writes₀ (defs := defs) 𝒱 c bd E (Q := Q) (w := w) (hx := hx) (hm := hm)
    (k := fun x => Prog.ret x) (f := f) hsub) $$ H
  iapply HW
  iintro H
  rw [wp_ret]
  imodintro
  iapply HK
  iexists _
  isplitr
  swap
  · iexact H
  ipureintro
  funext y
  by_cases hy : y ∈ r.set
  · rw [← Rect.map_emb_univ] at hy
    obtain ⟨x, _, rfl⟩ := Finset.mem_map.mp hy
    rw [View.read_writes_cons_emb _ _ r w [] x]
    exact (h1 x).symm
  · rw [View.read_writes_cons_miss _ _ ⟨r, w⟩ [] y hy, h2 y hy, View.writes_nil, hf]

theorem whole_idx (off : Fin s.rank → Nat) (inb : ∀ a, off a + s.size a ≤ s.size a) (x : s.Idx) :
    (Rect.unit (s := s) off s.size inb).idx x = x := by
  funext a
  apply Fin.ext
  show off a + 1 * (x a).val = (x a).val
  have := inb a
  omega

theorem whole_mem (off : Fin s.rank → Nat) (inb : ∀ a, off a + s.size a ≤ s.size a) (y : s.Idx) :
    y ∈ (Rect.unit (s := s) off s.size inb).set := by
  rw [Rect.mem_set_unit]
  intro a
  have := inb a
  have := (y a).isLt
  omega

/-- A load of the whole buffer, -/
theorem load_whole {cs : CoreSpace} {m : Memref sig c.2.kind cs s e} {off : Fin s.rank → Nat}
    {inb : ∀ a, off a + s.size a ≤ s.size a} {hl : m.view.LoadsAt (Rect.unit (s := s) off s.size inb).toLoadRect}
    {q : PosShare TreeShare} {X : s.Idx → Val e} {Q : (s.Idx → Val e) → sProp (MT nD τ sig Ix Val Name U Lvl)} :
    iprop(owns c m q X ∗ (owns c m q X -∗ Q X))
      ⊢ wp frame (wpE defs 𝒱 c bd) E (Prog.lift (.load m (Rect.unit (s := s) off s.size inb).toLoadRect hl)) Q :=
  load_owns 𝒱 c bd E (r := Rect.unit (s := s) off s.size inb) X fun x => congrArg X (whole_idx off inb x)

/-- and a store of it. -/
theorem store_whole {cs : CoreSpace} {m : Memref sig c.2.kind cs s e} {off : Fin s.rank → Nat}
    {inb : ∀ a, off a + s.size a ≤ s.size a} {w : s.Idx → Val e}
    {hx : (m.access (Rect.unit (s := s) off s.size inb)).Stores Finset.univ}
    {hm : Finset.univ = Finset.univ ∨ ∀ a, (Rect.unit (s := s) off s.size inb).stride a = 1}
    {X : s.Idx → Val e} {Q : PUnit → sProp (MT nD τ sig Ix Val Name U Lvl)} :
    iprop(owns c m fullShare X ∗ (owns c m fullShare w -∗ Q ⟨⟩))
      ⊢ wp frame (wpE defs 𝒱 c bd) E (Prog.lift (.store m (Rect.unit (s := s) off s.size inb) w Finset.univ hx hm)) Q :=
  store_owns 𝒱 c bd E (r := Rect.unit (s := s) off s.size inb) w (fun x => congrArg w (whole_idx off inb x))
    fun y hy => absurd (whole_mem off inb y) hy

end Cert.LruRules

end
-- ==== Proof.Lru.Places.lean ====
/-
  One point of the recurrence kernel's grid: what each part of its body leaves in the buffers, stated as functions
  of the point's blocks, the eight rows kept from the point before and the carried state.
-/
module

public import proofs.«01_k».proof.Proof.Gen.LruIdeal.Frame
public import proofs.«01_k».proof.Proof.Gen.LruIdeal.Skeleton
public import proofs.«01_k».proof.Proof.Lru.Rules
public import Idealize.ShloMosaic.Lib.ValueIdxCore

@[expose] public section

set_option maxRecDepth 16384

noncomputable section

namespace Cert.LruIdeal.Body

open Cert.LruIdeal Cert.LruIdeal.Gen Cert.LruRules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-! ## What a point computes -/

/-- The blocks a point reads. -/
structure Inp (F : FTy → Type) where
  x : Vec F S1x256x1024 .f32
  w : Vec F S1024x1024 .bf16
  cw : Vec F S4x512 .f32
  cb : Vec F S1x512 .f32
  wr : Vec F S2x256x256 .bf16
  br : Vec F S1x512 .f32
  wi : Vec F S2x256x256 .bf16
  bi : Vec F S1x512 .f32
  lam : Vec F S1x512 .f32

/-- The buffer of 264 rows: eight rows kept from the point before, then the point's own. -/
def join (p : Vec F S8x512 .f32) (x : Vec F S256x512 .f32) : Vec F S264x512 .f32 := fun y =>
  if h : (y 0).val < 8 then p (ix2 ⟨(y 0).val, h⟩ (y 1))
  else x (ix2 ⟨(y 0).val - 8, by have : (y 0).val < 264 := (y 0).isLt; omega⟩ (y 1))

/-- Its first eight rows replaced. -/
def putTop (p : Vec F S8x512 .f32) (d : Vec F S264x512 .f32) : Vec F S264x512 .f32 := fun y =>
  if h : (y 0).val < 8 then p (ix2 ⟨(y 0).val, h⟩ (y 1)) else d y

/-- The 256 rows from row `d` on. -/
def shift (X : Vec F S264x512 .f32) (d : Fin 9) : Vec F S256x512 .f32 := fun y =>
  X (ix2 ⟨(y 0).val + d.val, by have : (y 0).val < 256 := (y 0).isLt; omega⟩ (y 1))

/-- Row `j` of the convolution's weights, and matrix `j` of a pair. -/
def rowOf (w : Vec F S4x512 .f32) (j : Fin 4) : Vec F S1x512 .f32 := fun y => w (ix2 j (y 1))
def matOf (w : Vec F S2x256x256 .bf16) (j : Fin 2) : Vec F S1x256x256 .bf16 := fun y => w (ix3 j (y 1) (y 2))

/-- Rows `8 k … 8 k + 7`. -/
def grp (X : Vec F S256x512 .f32) (k : Nat) : Vec F S8x512 .f32 := fun y =>
  X (ix2 ⟨(8 * k + (y 0).val) % 256, Nat.mod_lt _ (by decide)⟩ (y 1))

/-- The two halves of the projection of the point's rows. -/
abbrev xr (I : Inp F) : Vec F S256x512 .f32 := k0_pay9 I.x I.w
abbrev gr (I : Inp F) : Vec F S256x512 .f32 := k0_pay10 I.x I.w
/-- The rows the convolution reads. -/
abbrev xb (I : Inp F) (p : Vec F S8x512 .f32) : Vec F S264x512 .f32 := join p (k0_pay11 I.x I.w)
/-- The convolution but for its first tap, and whole. -/
abbrev conv3 (I : Inp F) (p : Vec F S8x512 .f32) : Vec F S256x512 .f32 :=
  k0_pay12 I.x I.w I.cb (rowOf I.cw 3) (rowOf I.cw 2) (shift (xb I p) 7) (rowOf I.cw 1) (shift (xb I p) 6)
abbrev conv (I : Inp F) (p : Vec F S8x512 .f32) : Vec F S256x512 .f32 :=
  k0_pay13 (conv3 I p) (rowOf I.cw 0) (shift (xb I p) 5)
/-- The two gates (the second before its bias). -/
abbrev gate1 (I : Inp F) (p : Vec F S8x512 .f32) : Vec F S256x512 .f32 :=
  k0_pay16 (conv3 I p) (rowOf I.cw 0) (shift (xb I p) 5) (matOf I.wr 0) (matOf I.wr 1) I.br
abbrev gate2 (I : Inp F) (p : Vec F S8x512 .f32) : Vec F S256x512 .f32 :=
  k0_pay17 (conv3 I p) (rowOf I.cw 0) (shift (xb I p) 5) (matOf I.wi 0) (matOf I.wi 1)
/-- The recurrence's coefficients. -/
abbrev av (I : Inp F) (p : Vec F S8x512 .f32) : Vec F S256x512 .f32 := k0_pay19 (gate1 I p) I.lam
abbrev uv (I : Inp F) (p : Vec F S8x512 .f32) : Vec F S256x512 .f32 :=
  k0_pay20 (conv I p) (gate1 I p) (gate2 I p) I.bi I.lam

/-- The row numbers. -/
abbrev rows : IVec S8x512 32 := iota .tc S8x512 32 [0] iota_S8x512_d0_w32

/-- The carried state before group `k`, from `h` before the first. -/
def carry (a u : Vec F S256x512 .f32) (h : Vec F S8x512 .f32) : Nat → Vec F S8x512 .f32
  | 0 => h
  | k + 1 => k0_pay3 rows (carry a u h k) (grp a k) (grp u k)

/-- The states of all rows. -/
def states (a u : Vec F S256x512 .f32) (h : Vec F S8x512 .f32) : Vec F S256x512 .f32 := fun y =>
  k0_pay2 rows (carry a u h ((y 0).val / 8)) (grp a ((y 0).val / 8)) (grp u ((y 0).val / 8))
    (ix2 ⟨(y 0).val % 8, Nat.mod_lt _ (by decide)⟩ (y 1))

/-- The buffer of states with the first `k` groups done. -/
def upto (a u : Vec F S256x512 .f32) (h : Vec F S8x512 .f32) (k : Nat) : Vec F S256x512 .f32 := fun y =>
  if (y 0).val < 8 * k then states a u h y else u y

/-- The point's result, the state it hands on and the rows it keeps. -/
abbrev outv (I : Inp F) (p h : Vec F S8x512 .f32) : Vec F S1x256x512 .bf16 := k0_pay5 (gr I) (states (av I p) (uv I p) h)
abbrev hnew (I : Inp F) (p h : Vec F S8x512 .f32) : Vec F S8x512 .f32 := k0_pay4 (carry (av I p) (uv I p) h 32)
abbrev pnew (I : Inp F) : Vec F S8x512 .f32 := k0_pay14 (xr I)

/-! ## Places -/

theorem at2 {n0 n1 : Nat} {z : Fin n0} {o : Fin n1} {i : (⟨2, ![n0, n1]⟩ : Shape).Idx} (h0 : (i 0).val = z.val) (h1 : (i 1).val = o.val) :
    i = ix2 z o := by
  funext a
  match a with
  | ⟨0, _⟩ => exact Fin.ext h0
  | ⟨1, _⟩ => exact Fin.ext h1

theorem off1 : ∀ k : Fin k0_t1_loop.trips, k0_off1 k 0 = 8 * k.val ∧ k0_off1 k 1 = 0 := by decide +kernel
theorem trips_eq : k0_t1_loop.trips = 32 := by decide +kernel

theorem ld_shift (X : Vec F S264x512 .f32) (d : Fin 9) (off : Fin 2 → Nat) (h : off = ![d.val, 0]) (inb) (x) :
    X ((Rect.unit (s := S264x512) off S256x512.size inb).idx x) = shift X d x := by
  subst h
  refine congrArg X (at2 ?_ ?_)
  · show d.val + 1 * (x 0).val = (x 0).val + d.val; omega
  · show 0 + 1 * (x 1).val = (x 1).val; omega

theorem ld_row (X : Vec F S4x512 .f32) (d : Fin 4) (off : Fin 2 → Nat) (h : off = ![d.val, 0]) (inb) (x) :
    X ((Rect.unit (s := S4x512) off S1x512.size inb).idx x) = rowOf X d x := by
  subst h
  refine congrArg X (at2 ?_ ?_)
  · show d.val + 1 * (x 0).val = d.val
    have : (x 0).val < 1 := (x 0).isLt
    omega
  · show 0 + 1 * (x 1).val = (x 1).val; omega

theorem ld_mat (X : Vec F S2x256x256 .bf16) (d : Fin 2) (off : Fin 3 → Nat) (h : off = ![d.val, 0, 0]) (inb) (x) :
    X ((Rect.unit (s := S2x256x256) off S1x256x256.size inb).idx x) = matOf X d x := by
  subst h
  refine congrArg X ?_
  funext a
  match a with
  | ⟨0, _⟩ =>
    apply Fin.ext
    show d.val + 1 * (x 0).val = d.val
    have : (x 0).val < 1 := (x 0).isLt
    omega
  | ⟨1, _⟩ => apply Fin.ext; show 0 + 1 * (x 1).val = (x 1).val; omega
  | ⟨2, _⟩ => apply Fin.ext; show 0 + 1 * (x 2).val = (x 2).val; omega

theorem ld_grp (X : Vec F S256x512 .f32) (k : Fin k0_t1_loop.trips) (x) :
    X ((Rect.unit (s := S256x512) (k0_off1 k) S8x512.size (k0_off1_inb k)).idx x) = grp X k.val x := by
  have hk : k.val < 32 := Nat.lt_of_lt_of_eq k.isLt trips_eq
  have hx : (x 0).val < 8 := (x 0).isLt
  refine congrArg X (at2 ?_ ?_)
  · show k0_off1 k 0 + 1 * (x 0).val = (8 * k.val + (x 0).val) % 256
    rw [(off1 k).1]; omega
  · show k0_off1 k 1 + 1 * (x 1).val = (x 1).val
    rw [(off1 k).2]; omega

/-- Storing the first eight rows. -/
theorem st_top (p : Vec F S8x512 .f32) (d : Vec F S264x512 .f32) (inb) (x) :
    putTop p d ((Rect.unit (s := S264x512) ![0, 0] S8x512.size inb).idx x) = p x := by
  have hx : (x 0).val < 8 := (x 0).isLt
  unfold putTop
  refine (dif_pos (show 0 + 1 * (x 0).val < 8 by omega)).trans ?_
  refine congrArg p (at2 ?_ ?_).symm
  · show (x 0).val = 0 + 1 * (x 0).val; omega
  · show (x 1).val = 0 + 1 * (x 1).val; omega

theorem st_top_out (p : Vec F S8x512 .f32) (d : Vec F S264x512 .f32) (inb) (y : S264x512.Idx)
    (hy : y ∉ (Rect.unit (s := S264x512) ![0, 0] S8x512.size inb).set) : putTop p d y = d y := by
  rw [Rect.mem_set_unit] at hy
  have h1 : (y 1).val < 512 := (y 1).isLt
  unfold putTop
  refine dif_neg fun h => hy fun a => ?_
  match a with
  | ⟨0, _⟩ => exact ⟨Nat.zero_le _, by show (y 0).val < 0 + 8; omega⟩
  | ⟨1, _⟩ => exact ⟨Nat.zero_le _, by show (y 1).val < 0 + 512; omega⟩

/-- Storing the point's own rows. -/
theorem st_own (p : Vec F S8x512 .f32) (x : Vec F S256x512 .f32) (inb) (i) :
    join p x ((Rect.unit (s := S264x512) ![8, 0] S256x512.size inb).idx i) = x i := by
  unfold join
  refine (dif_neg (show ¬ 8 + 1 * (i 0).val < 8 by omega)).trans ?_
  refine congrArg x (at2 ?_ ?_).symm
  · show (i 0).val = 8 + 1 * (i 0).val - 8; omega
  · show (i 1).val = 0 + 1 * (i 1).val; omega

theorem st_own_out (p : Vec F S8x512 .f32) (x : Vec F S256x512 .f32) (d : Vec F S264x512 .f32) (inb) (y : S264x512.Idx)
    (hy : y ∉ (Rect.unit (s := S264x512) ![8, 0] S256x512.size inb).set) : join p x y = putTop p d y := by
  rw [Rect.mem_set_unit] at hy
  have h0 : (y 0).val < 264 := (y 0).isLt
  have h1 : (y 1).val < 512 := (y 1).isLt
  have h : (y 0).val < 8 := by
    by_contra h
    refine hy fun a => ?_
    match a with
    | ⟨0, _⟩ => exact ⟨by show 8 ≤ (y 0).val; omega, by show (y 0).val < 8 + 256; omega⟩
    | ⟨1, _⟩ => exact ⟨Nat.zero_le _, by show (y 1).val < 0 + 512; omega⟩
  unfold join putTop
  rw [dif_pos h, dif_pos h]

theorem upto_zero (a u : Vec F S256x512 .f32) (h : Vec F S8x512 .f32) : upto a u h 0 = u := by
  funext y
  exact if_neg (by omega)

theorem upto_all (a u : Vec F S256x512 .f32) (h : Vec F S8x512 .f32) : upto a u h 32 = states a u h := by
  funext y
  have h0 : (y 0).val < 256 := (y 0).isLt
  exact if_pos (by omega)

theorem grp_upto (a u : Vec F S256x512 .f32) (h : Vec F S8x512 .f32) (k : Nat) (hk : k < 32) : grp (upto a u h k) k = grp u k := by
  funext y
  have h0 : (y 0).val < 8 := (y 0).isLt
  unfold grp upto
  exact if_neg (by show ¬ (8 * k + (y 0).val) % 256 < 8 * k; omega)

theorem st_grp (a u : Vec F S256x512 .f32) (h : Vec F S8x512 .f32) (k : Fin k0_t1_loop.trips) (x) :
    upto a u h (k.val + 1) ((Rect.unit (s := S256x512) (k0_off1 k) S8x512.size (k0_off1_inb k)).idx x)
      = k0_pay2 rows (carry a u h k.val) (grp a k.val) (grp u k.val) x := by
  have hx : (x 0).val < 8 := (x 0).isLt
  have e0 : k0_off1 k 0 + 1 * (x 0).val = 8 * k.val + (x 0).val := by rw [(off1 k).1]; omega
  have e1 : k0_off1 k 1 + 1 * (x 1).val = (x 1).val := by rw [(off1 k).2]; omega
  unfold upto
  refine (if_pos (show k0_off1 k 0 + 1 * (x 0).val < 8 * (k.val + 1) by omega)).trans ?_
  unfold states
  have e : (k0_off1 k 0 + 1 * (x 0).val) / 8 = k.val := by omega
  show k0_pay2 rows (carry a u h ((k0_off1 k 0 + 1 * (x 0).val) / 8)) (grp a ((k0_off1 k 0 + 1 * (x 0).val) / 8)) (grp u ((k0_off1 k 0 + 1 * (x 0).val) / 8)) _ = _
  rw [e]
  refine congrArg _ (at2 ?_ ?_).symm
  · show (x 0).val = (k0_off1 k 0 + 1 * (x 0).val) % 8; omega
  · show (x 1).val = k0_off1 k 1 + 1 * (x 1).val; omega

theorem st_grp_out (a u : Vec F S256x512 .f32) (h : Vec F S8x512 .f32) (k : Fin k0_t1_loop.trips) (y : S256x512.Idx)
    (hy : y ∉ (Rect.unit (s := S256x512) (k0_off1 k) S8x512.size (k0_off1_inb k)).set) :
    upto a u h (k.val + 1) y = upto a u h k.val y := by
  rw [Rect.mem_set_unit] at hy
  have h1 : (y 1).val < 512 := (y 1).isLt
  have hn : ¬ (8 * k.val ≤ (y 0).val ∧ (y 0).val < 8 * k.val + 8) := by
    intro hh
    refine hy fun a => ?_
    match a with
    | ⟨0, _⟩ => show k0_off1 k 0 ≤ (y 0).val ∧ (y 0).val < k0_off1 k 0 + 8; rw [(off1 k).1]; exact hh
    | ⟨1, _⟩ => show k0_off1 k 1 ≤ (y 1).val ∧ (y 1).val < k0_off1 k 1 + 512; rw [(off1 k).2]; omega
  unfold upto
  by_cases hl : (y 0).val < 8 * k.val
  · rw [if_pos hl, if_pos (by omega)]
  · rw [if_neg hl, if_neg (by omega)]

end Cert.LruIdeal.Body

end
-- ==== Proof.Lru.Parts.lean ====
/-
  What each part of the recurrence kernel's body does to the buffers it is given.
-/
module

public import proofs.«01_k».proof.Proof.Lru.Places

@[expose] public section

set_option maxRecDepth 16384

noncomputable section

namespace Cert.LruIdeal.Body

open Cert.LruIdeal Cert.LruIdeal.Gen Cert.LruRules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The condition under which a point starts a new sequence. -/
abbrev fresh (i : grid0.Coords) : Prop :=
  (Scalar.cmpi .ne (Scalar.extui (Scalar.cmpi .eq (BitVec.ofNat 32 (i 1).val) 0#32) : BitVec 32) 0#32 : BitVec 1) = 1#1

variable (𝒱 : Variants) (c : Dev nD) (bd : Option 𝒱.V) (E : Set ℕ) (i : grid0.Coords)

section
variable {q : PosShare TreeShare}

/-! Loads and stores of the buffers, by what is read or left. -/

theorem load_shift {m : Memref sig .tc .vmem S264x512 .f32} (d : Fin 9) (off : Fin 2 → Nat) (h : off = ![d.val, 0]) {inb : ∀ a, off a + S256x512.size a ≤ S264x512.size a} {hl : m.view.LoadsAt (Rect.unit (s := S264x512) off S256x512.size inb).toLoadRect}
    {X : Vec F S264x512 .f32} {Q : Vec F S256x512 .f32 → sProp 𝕄} :
    iprop(owns (c : Thread nD τ) m q X ∗ (owns (c : Thread nD τ) m q X -∗ Q (shift X d)))
      ⊢ wp frame (wpE (defs₀ (F := F)) 𝒱 c bd) E (Prog.lift (.load m (Rect.unit (s := S264x512) off S256x512.size inb).toLoadRect hl)) Q :=
  load_owns (defs := defs₀ (F := F)) 𝒱 c bd E (m := m) (hl := hl) (X := X) (Q := Q) (r := (Rect.unit (s := S264x512) off S256x512.size inb)) (shift X d) (ld_shift X d off h inb)

theorem load_row {m : Memref sig .tc .vmem S4x512 .f32} (d : Fin 4) (off : Fin 2 → Nat) (h : off = ![d.val, 0]) {inb : ∀ a, off a + S1x512.size a ≤ S4x512.size a} {hl : m.view.LoadsAt (Rect.unit (s := S4x512) off S1x512.size inb).toLoadRect}
    {X : Vec F S4x512 .f32} {Q : Vec F S1x512 .f32 → sProp 𝕄} :
    iprop(owns (c : Thread nD τ) m q X ∗ (owns (c : Thread nD τ) m q X -∗ Q (rowOf X d)))
      ⊢ wp frame (wpE (defs₀ (F := F)) 𝒱 c bd) E (Prog.lift (.load m (Rect.unit (s := S4x512) off S1x512.size inb).toLoadRect hl)) Q :=
  load_owns (defs := defs₀ (F := F)) 𝒱 c bd E (m := m) (hl := hl) (X := X) (Q := Q) (r := (Rect.unit (s := S4x512) off S1x512.size inb)) (rowOf X d) (ld_row X d off h inb)

theorem load_mat {m : Memref sig .tc .vmem S2x256x256 .bf16} (d : Fin 2) (off : Fin 3 → Nat) (h : off = ![d.val, 0, 0]) {inb : ∀ a, off a + S1x256x256.size a ≤ S2x256x256.size a} {hl : m.view.LoadsAt (Rect.unit (s := S2x256x256) off S1x256x256.size inb).toLoadRect}
    {X : Vec F S2x256x256 .bf16} {Q : Vec F S1x256x256 .bf16 → sProp 𝕄} :
    iprop(owns (c : Thread nD τ) m q X ∗ (owns (c : Thread nD τ) m q X -∗ Q (matOf X d)))
      ⊢ wp frame (wpE (defs₀ (F := F)) 𝒱 c bd) E (Prog.lift (.load m (Rect.unit (s := S2x256x256) off S1x256x256.size inb).toLoadRect hl)) Q :=
  load_owns (defs := defs₀ (F := F)) 𝒱 c bd E (m := m) (hl := hl) (X := X) (Q := Q) (r := (Rect.unit (s := S2x256x256) off S1x256x256.size inb)) (matOf X d) (ld_mat X d off h inb)

theorem load_grp {m : Memref sig .tc .vmem S256x512 .f32} (k : Fin k0_t1_loop.trips) {hl : m.view.LoadsAt (Rect.unit (s := S256x512) (k0_off1 k) S8x512.size (k0_off1_inb k)).toLoadRect}
    {X : Vec F S256x512 .f32} {Q : Vec F S8x512 .f32 → sProp 𝕄} :
    iprop(owns (c : Thread nD τ) m q X ∗ (owns (c : Thread nD τ) m q X -∗ Q (grp X k.val)))
      ⊢ wp frame (wpE (defs₀ (F := F)) 𝒱 c bd) E (Prog.lift (.load m (Rect.unit (s := S256x512) (k0_off1 k) S8x512.size (k0_off1_inb k)).toLoadRect hl)) Q :=
  load_owns (defs := defs₀ (F := F)) 𝒱 c bd E (m := m) (hl := hl) (X := X) (Q := Q) (r := (Rect.unit (s := S256x512) (k0_off1 k) S8x512.size (k0_off1_inb k))) (grp X k.val) (ld_grp X k)

theorem load_top {m : Memref sig .tc .vmem S264x512 .f32} {inb : ∀ a, ![0, 0] a + S8x512.size a ≤ S264x512.size a} {hl : m.view.LoadsAt (Rect.unit (s := S264x512) ![0, 0] S8x512.size inb).toLoadRect}
    {X : Vec F S264x512 .f32} {Q : Vec F S8x512 .f32 → sProp 𝕄} :
    iprop(owns (c : Thread nD τ) m q X ∗ (owns (c : Thread nD τ) m q X -∗ Q (fun x => X ((Rect.unit (s := S264x512) ![0, 0] S8x512.size inb).idx x))))
      ⊢ wp frame (wpE (defs₀ (F := F)) 𝒱 c bd) E (Prog.lift (.load m (Rect.unit (s := S264x512) ![0, 0] S8x512.size inb).toLoadRect hl)) Q :=
  load_owns (defs := defs₀ (F := F)) 𝒱 c bd E (m := m) (hl := hl) (X := X) (Q := Q) (r := (Rect.unit (s := S264x512) ![0, 0] S8x512.size inb)) (fun x => X ((Rect.unit (s := S264x512) ![0, 0] S8x512.size inb).idx x)) (fun x => rfl)

theorem load_own {m : Memref sig .tc .vmem S264x512 .f32} {inb : ∀ a, ![8, 0] a + S256x512.size a ≤ S264x512.size a} {hl : m.view.LoadsAt (Rect.unit (s := S264x512) ![8, 0] S256x512.size inb).toLoadRect}
    {X : Vec F S264x512 .f32} {Q : Vec F S256x512 .f32 → sProp 𝕄} :
    iprop(owns (c : Thread nD τ) m q X ∗ (owns (c : Thread nD τ) m q X -∗ Q (fun x => X ((Rect.unit (s := S264x512) ![8, 0] S256x512.size inb).idx x))))
      ⊢ wp frame (wpE (defs₀ (F := F)) 𝒱 c bd) E (Prog.lift (.load m (Rect.unit (s := S264x512) ![8, 0] S256x512.size inb).toLoadRect hl)) Q :=
  load_owns (defs := defs₀ (F := F)) 𝒱 c bd E (m := m) (hl := hl) (X := X) (Q := Q) (r := (Rect.unit (s := S264x512) ![8, 0] S256x512.size inb)) (fun x => X ((Rect.unit (s := S264x512) ![8, 0] S256x512.size inb).idx x)) (fun x => rfl)

theorem store_top {m : Memref sig .tc .vmem S264x512 .f32} {inb : ∀ a, ![0, 0] a + S8x512.size a ≤ S264x512.size a} {hx : (m.access (Rect.unit (s := S264x512) ![0, 0] S8x512.size inb)).Stores Finset.univ}
    {hm : (Finset.univ : Finset (Rect.unit (s := S264x512) ![0, 0] S8x512.size inb).shape.Idx) = Finset.univ ∨ ∀ a, (Rect.unit (s := S264x512) ![0, 0] S8x512.size inb).stride a = 1}
    {w : Vec F S8x512 .f32} {X : Vec F S264x512 .f32} {Q : PUnit → sProp 𝕄} :
    iprop(owns (c : Thread nD τ) m fullShare (X) ∗ (owns (c : Thread nD τ) m fullShare (putTop w X) -∗ Q ⟨⟩))
      ⊢ wp frame (wpE (defs₀ (F := F)) 𝒱 c bd) E (Prog.lift (.store m (Rect.unit (s := S264x512) ![0, 0] S8x512.size inb) (w) Finset.univ hx hm)) Q :=
  store_owns (defs := defs₀ (F := F)) 𝒱 c bd E (m := m) (w := w) (hx := hx) (hm := hm) (X := X) (Q := Q) (r := (Rect.unit (s := S264x512) ![0, 0] S8x512.size inb)) (putTop w X) (st_top w X inb) (st_top_out w X inb)

theorem store_own {m : Memref sig .tc .vmem S264x512 .f32} {inb : ∀ a, ![8, 0] a + S256x512.size a ≤ S264x512.size a} {hx : (m.access (Rect.unit (s := S264x512) ![8, 0] S256x512.size inb)).Stores Finset.univ}
    {hm : (Finset.univ : Finset (Rect.unit (s := S264x512) ![8, 0] S256x512.size inb).shape.Idx) = Finset.univ ∨ ∀ a, (Rect.unit (s := S264x512) ![8, 0] S256x512.size inb).stride a = 1}
    {w : Vec F S256x512 .f32} (p : Vec F S8x512 .f32) (d : Vec F S264x512 .f32) {X : Vec F S264x512 .f32} (hX : putTop p d = X) {Q : PUnit → sProp 𝕄} :
    iprop(owns (c : Thread nD τ) m fullShare (X) ∗ (owns (c : Thread nD τ) m fullShare (join p w) -∗ Q ⟨⟩))
      ⊢ wp frame (wpE (defs₀ (F := F)) 𝒱 c bd) E (Prog.lift (.store m (Rect.unit (s := S264x512) ![8, 0] S256x512.size inb) (w) Finset.univ hx hm)) Q :=
  store_owns (defs := defs₀ (F := F)) 𝒱 c bd E (m := m) (w := w) (hx := hx) (hm := hm) (X := X) (Q := Q) (r := (Rect.unit (s := S264x512) ![8, 0] S256x512.size inb)) (join p w) (st_own p w inb) (fun y hy => (st_own_out p w d inb y hy).trans (congrFun hX y))

theorem store_grp (k : Fin k0_t1_loop.trips) {m : Memref sig .tc .vmem S256x512 .f32} {hx : (m.access (Rect.unit (s := S256x512) (k0_off1 k) S8x512.size (k0_off1_inb k))).Stores Finset.univ}
    {hm : (Finset.univ : Finset (Rect.unit (s := S256x512) (k0_off1 k) S8x512.size (k0_off1_inb k)).shape.Idx) = Finset.univ ∨ ∀ a, (Rect.unit (s := S256x512) (k0_off1 k) S8x512.size (k0_off1_inb k)).stride a = 1}
    (a u : Vec F S256x512 .f32) (h : Vec F S8x512 .f32) {Q : PUnit → sProp 𝕄} :
    iprop(owns (c : Thread nD τ) m fullShare (upto a u h k.val) ∗ (owns (c : Thread nD τ) m fullShare (upto a u h (k.val + 1)) -∗ Q ⟨⟩))
      ⊢ wp frame (wpE (defs₀ (F := F)) 𝒱 c bd) E (Prog.lift (.store m (Rect.unit (s := S256x512) (k0_off1 k) S8x512.size (k0_off1_inb k)) (k0_pay2 rows (carry a u h k.val) (grp a k.val) (grp u k.val)) Finset.univ hx hm)) Q :=
  store_owns (defs := defs₀ (F := F)) 𝒱 c bd E (m := m) (w := k0_pay2 rows (carry a u h k.val) (grp a k.val) (grp u k.val)) (hx := hx) (hm := hm) (X := upto a u h k.val) (Q := Q) (r := (Rect.unit (s := S256x512) (k0_off1 k) S8x512.size (k0_off1_inb k))) (upto a u h (k.val + 1)) (st_grp a u h k) (st_grp_out a u h k)

end

set_option maxHeartbeats 1000000 in
theorem part1_sound (arg2 : Memref sig .tc .vmem S1x256x1024 .f32) (harg2 : arg2.IsWhole) (arg3 : Memref sig .tc .vmem S1024x1024 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S264x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x512 .f32) (harg15 : arg15.IsWhole)
    (I : Inp F) (p h : Vec F S8x512 .f32) (d12 : Vec F S264x512 .f32) (d15 : Vec F S8x512 .f32)
    (hf : fresh i → p = k0_pay6 ∧ h = k0_pay7) (hn : ¬ fresh i → putTop p d12 = d12 ∧ d15 = h)
    {Q : (Σ' (_ : FVec F S256x512 .f32) (_ : FVec F S256x512 .f32), FVec F S256x512 .f32) → sProp 𝕄} :
    iprop(owns (c : Thread nD τ) arg2 fullShare I.x
      ∗ owns (c : Thread nD τ) arg3 fullShare I.w
      ∗ owns (c : Thread nD τ) arg4 fullShare I.cw
      ∗ owns (c : Thread nD τ) arg5 fullShare I.cb
      ∗ owns (c : Thread nD τ) arg12 fullShare d12
      ∗ owns (c : Thread nD τ) arg15 fullShare d15
      ∗ ((owns (c : Thread nD τ) arg2 fullShare I.x
      ∗ owns (c : Thread nD τ) arg3 fullShare I.w
      ∗ owns (c : Thread nD τ) arg4 fullShare I.cw
      ∗ owns (c : Thread nD τ) arg5 fullShare I.cb
      ∗ owns (c : Thread nD τ) arg12 fullShare (xb I p)
      ∗ owns (c : Thread nD τ) arg15 fullShare h)
        -∗ Q ⟨xr I, gr I, conv3 I p⟩))
      ⊢ wp frame (wpE (defs₀ (F := F)) 𝒱 c bd) E (k0_part1 i arg2 harg2 arg3 harg3 arg4 harg4 arg5 harg5 arg6 harg6 arg7 harg7 arg8 harg8 arg9 harg9 arg10 harg10 arg11 harg11 arg12 harg12 arg13 harg13 arg14 harg14 arg15 harg15) Q := by
  rw [k0_part1_eq_skeleton]
  unfold k0_part1_skel
  dsimp only
  iintro ⟨H2, H3, H4, H5, H12, H15, HK⟩
  by_cases hc : fresh i
  · obtain ⟨ep, eh⟩ := hf hc
    rw [dif_pos hc, ← ep, ← eh]
    rw [wp_bind]
    iapply (load_top 𝒱 c bd E)
    isplitl [H12]; · iexact H12
    iintro H12
    beta_reduce
    rw [wp_bind]
    iapply (store_top 𝒱 c bd E)
    isplitl [H12]; · iexact H12
    iintro H12
    beta_reduce
    rw [wp_bind]
    iapply (load_whole 𝒱 c bd E)
    isplitl [H15]; · iexact H15
    iintro H15
    beta_reduce
    rw [wp_bind]
    iapply (store_whole 𝒱 c bd E)
    isplitl [H15]; · iexact H15
    iintro H15
    beta_reduce
    rw [wp_bind]
    iapply (load_whole 𝒱 c bd E)
    isplitl [H2]; · iexact H2
    iintro H2
    beta_reduce
    rw [wp_bind]
    iapply (load_whole 𝒱 c bd E)
    isplitl [H3]; · iexact H3
    iintro H3
    beta_reduce
    rw [wp_bind]
    iapply (load_own 𝒱 c bd E)
    isplitl [H12]; · iexact H12
    iintro H12
    beta_reduce
    rw [wp_bind]
    iapply (store_own 𝒱 c bd E p d12 rfl)
    isplitl [H12]; · iexact H12
    iintro H12
    beta_reduce
    rw [wp_bind]
    iapply (load_whole 𝒱 c bd E)
    isplitl [H5]; · iexact H5
    iintro H5
    beta_reduce
    rw [wp_bind]
    iapply (load_row 𝒱 c bd E 3 ![3, 0] rfl)
    isplitl [H4]; · iexact H4
    iintro H4
    beta_reduce
    rw [wp_bind]
    iapply (load_row 𝒱 c bd E 2 ![2, 0] rfl)
    isplitl [H4]; · iexact H4
    iintro H4
    beta_reduce
    rw [wp_bind]
    iapply (load_shift 𝒱 c bd E 7 ![7, 0] rfl)
    isplitl [H12]; · iexact H12
    iintro H12
    beta_reduce
    rw [wp_bind]
    iapply (load_row 𝒱 c bd E 1 ![1, 0] rfl)
    isplitl [H4]; · iexact H4
    iintro H4
    beta_reduce
    rw [wp_bind]
    iapply (load_shift 𝒱 c bd E 6 ![6, 0] rfl)
    isplitl [H12]; · iexact H12
    iintro H12
    beta_reduce
    rw [wp_pure]
    imodintro
    iapply HK
    isplitl [H2]; · iexact H2
    isplitl [H3]; · iexact H3
    isplitl [H4]; · iexact H4
    isplitl [H5]; · iexact H5
    isplitl [H12]; · iexact H12
    iexact H15
  · obtain ⟨e12, rfl⟩ := hn hc
    rw [dif_neg hc]
    rw [wp_bind]
    iapply (load_whole 𝒱 c bd E)
    isplitl [H2]; · iexact H2
    iintro H2
    beta_reduce
    rw [wp_bind]
    iapply (load_whole 𝒱 c bd E)
    isplitl [H3]; · iexact H3
    iintro H3
    beta_reduce
    rw [wp_bind]
    iapply (load_own 𝒱 c bd E)
    isplitl [H12]; · iexact H12
    iintro H12
    beta_reduce
    rw [wp_bind]
    iapply (store_own 𝒱 c bd E p d12 e12)
    isplitl [H12]; · iexact H12
    iintro H12
    beta_reduce
    rw [wp_bind]
    iapply (load_whole 𝒱 c bd E)
    isplitl [H5]; · iexact H5
    iintro H5
    beta_reduce
    rw [wp_bind]
    iapply (load_row 𝒱 c bd E 3 ![3, 0] rfl)
    isplitl [H4]; · iexact H4
    iintro H4
    beta_reduce
    rw [wp_bind]
    iapply (load_row 𝒱 c bd E 2 ![2, 0] rfl)
    isplitl [H4]; · iexact H4
    iintro H4
    beta_reduce
    rw [wp_bind]
    iapply (load_shift 𝒱 c bd E 7 ![7, 0] rfl)
    isplitl [H12]; · iexact H12
    iintro H12
    beta_reduce
    rw [wp_bind]
    iapply (load_row 𝒱 c bd E 1 ![1, 0] rfl)
    isplitl [H4]; · iexact H4
    iintro H4
    beta_reduce
    rw [wp_bind]
    iapply (load_shift 𝒱 c bd E 6 ![6, 0] rfl)
    isplitl [H12]; · iexact H12
    iintro H12
    beta_reduce
    rw [wp_pure]
    imodintro
    iapply HK
    isplitl [H2]; · iexact H2
    isplitl [H3]; · iexact H3
    isplitl [H4]; · iexact H4
    isplitl [H5]; · iexact H5
    isplitl [H12]; · iexact H12
    iexact H15

set_option maxHeartbeats 1000000 in
theorem part2_sound (arg2 : Memref sig .tc .vmem S1x256x1024 .f32) (harg2 : arg2.IsWhole) (arg3 : Memref sig .tc .vmem S1024x1024 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S264x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x512 .f32) (harg15 : arg15.IsWhole)
    (I : Inp F) (p : Vec F S8x512 .f32)
    {Q : (Σ' (_ : FVec F S256x512 .f32) (_ : FVec F S256x512 .f32), FVec F S256x512 .f32) → sProp 𝕄} :
    iprop(owns (c : Thread nD τ) arg4 fullShare I.cw
      ∗ owns (c : Thread nD τ) arg6 fullShare I.wr
      ∗ owns (c : Thread nD τ) arg7 fullShare I.br
      ∗ owns (c : Thread nD τ) arg8 fullShare I.wi
      ∗ owns (c : Thread nD τ) arg12 fullShare (xb I p)
      ∗ ((owns (c : Thread nD τ) arg4 fullShare I.cw
      ∗ owns (c : Thread nD τ) arg6 fullShare I.wr
      ∗ owns (c : Thread nD τ) arg7 fullShare I.br
      ∗ owns (c : Thread nD τ) arg8 fullShare I.wi
      ∗ owns (c : Thread nD τ) arg12 fullShare (putTop (pnew I) (xb I p)))
        -∗ Q ⟨conv I p, gate1 I p, gate2 I p⟩))
      ⊢ wp frame (wpE (defs₀ (F := F)) 𝒱 c bd) E (k0_part2 i arg2 harg2 arg3 harg3 arg4 harg4 arg5 harg5 arg6 harg6 arg7 harg7 arg8 harg8 arg9 harg9 arg10 harg10 arg11 harg11 arg12 harg12 arg13 harg13 arg14 harg14 arg15 harg15 (xr I) (conv3 I p)) Q := by
  rw [k0_part2_eq_skeleton]
  unfold k0_part2_skel
  iintro ⟨H4, H6, H7, H8, H12, HK⟩
  rw [wp_bind]
  iapply (load_row 𝒱 c bd E 0 ![0, 0] rfl)
  isplitl [H4]; · iexact H4
  iintro H4
  beta_reduce
  rw [wp_bind]
  iapply (load_shift 𝒱 c bd E 5 ![5, 0] rfl)
  isplitl [H12]; · iexact H12
  iintro H12
  beta_reduce
  rw [wp_bind]
  iapply (load_top 𝒱 c bd E)
  isplitl [H12]; · iexact H12
  iintro H12
  beta_reduce
  rw [wp_bind]
  iapply (store_top 𝒱 c bd E)
  isplitl [H12]; · iexact H12
  iintro H12
  beta_reduce
  rw [wp_bind]
  iapply (load_mat 𝒱 c bd E 0 ![0, 0, 0] rfl)
  isplitl [H6]; · iexact H6
  iintro H6
  beta_reduce
  rw [wp_bind]
  iapply (load_mat 𝒱 c bd E 1 ![1, 0, 0] rfl)
  isplitl [H6]; · iexact H6
  iintro H6
  beta_reduce
  rw [wp_bind]
  iapply (load_whole 𝒱 c bd E)
  isplitl [H7]; · iexact H7
  iintro H7
  beta_reduce
  rw [wp_bind]
  iapply (load_mat 𝒱 c bd E 0 ![0, 0, 0] rfl)
  isplitl [H8]; · iexact H8
  iintro H8
  beta_reduce
  rw [wp_bind]
  iapply (load_mat 𝒱 c bd E 1 ![1, 0, 0] rfl)
  isplitl [H8]; · iexact H8
  iintro H8
  beta_reduce
  rw [wp_pure]
  imodintro
  iapply HK
  isplitl [H4]; · iexact H4
  isplitl [H6]; · iexact H6
  isplitl [H7]; · iexact H7
  isplitl [H8]; · iexact H8
  iexact H12

set_option maxHeartbeats 1000000 in
theorem part3_sound (arg2 : Memref sig .tc .vmem S1x256x1024 .f32) (harg2 : arg2.IsWhole) (arg3 : Memref sig .tc .vmem S1024x1024 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S264x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x512 .f32) (harg15 : arg15.IsWhole)
    (I : Inp F) (p h : Vec F S8x512 .f32) (d13 d14 : Vec F S256x512 .f32)
    {Q : (Σ' (_ : IVec S8x512 32) (_ : Vec F S8x512 .f32) (_ : BitVec 32), BitVec 32) → sProp 𝕄} :
    iprop(owns (c : Thread nD τ) arg9 fullShare I.bi
      ∗ owns (c : Thread nD τ) arg10 fullShare I.lam
      ∗ owns (c : Thread nD τ) arg15 fullShare h
      ∗ owns (c : Thread nD τ) arg13 fullShare d13
      ∗ owns (c : Thread nD τ) arg14 fullShare d14
      ∗ ((owns (c : Thread nD τ) arg9 fullShare I.bi
      ∗ owns (c : Thread nD τ) arg10 fullShare I.lam
      ∗ owns (c : Thread nD τ) arg15 fullShare h
      ∗ owns (c : Thread nD τ) arg13 fullShare (av I p)
      ∗ owns (c : Thread nD τ) arg14 fullShare (uv I p))
        -∗ Q ⟨rows, h, 0#32, 32#32⟩))
      ⊢ wp frame (wpE (defs₀ (F := F)) 𝒱 c bd) E (k0_part3 i arg2 harg2 arg3 harg3 arg4 harg4 arg5 harg5 arg6 harg6 arg7 harg7 arg8 harg8 arg9 harg9 arg10 harg10 arg11 harg11 arg12 harg12 arg13 harg13 arg14 harg14 arg15 harg15 (conv I p) (gate1 I p) (gate2 I p)) Q := by
  rw [k0_part3_eq_skeleton]
  unfold k0_part3_skel
  iintro ⟨H9, H10, H15, H13, H14, HK⟩
  rw [wp_bind]
  iapply (load_whole 𝒱 c bd E)
  isplitl [H9]; · iexact H9
  iintro H9
  beta_reduce
  rw [wp_bind]
  iapply (load_whole 𝒱 c bd E)
  isplitl [H10]; · iexact H10
  iintro H10
  beta_reduce
  rw [wp_bind]
  iapply (load_whole 𝒱 c bd E)
  isplitl [H13]; · iexact H13
  iintro H13
  beta_reduce
  rw [wp_bind]
  iapply (store_whole 𝒱 c bd E)
  isplitl [H13]; · iexact H13
  iintro H13
  beta_reduce
  rw [wp_bind]
  iapply (load_whole 𝒱 c bd E)
  isplitl [H14]; · iexact H14
  iintro H14
  beta_reduce
  rw [wp_bind]
  iapply (store_whole 𝒱 c bd E)
  isplitl [H14]; · iexact H14
  iintro H14
  beta_reduce
  dsimp only
  rw [wp_bind]
  iapply (load_whole 𝒱 c bd E)
  isplitl [H15]; · iexact H15
  iintro H15
  beta_reduce
  rw [wp_pure]
  imodintro
  iapply HK
  isplitl [H9]; · iexact H9
  isplitl [H10]; · iexact H10
  isplitl [H15]; · iexact H15
  isplitl [H13]; · iexact H13
  iexact H14

/-- The loop's state before trip `k`. -/
def inv (arg13 arg14 : Memref sig .tc .vmem S256x512 .f32) (a u : Vec F S256x512 .f32) (h : Vec F S8x512 .f32) (k : Nat) (acc : Vec F S8x512 .f32) : sProp 𝕄 :=
  iprop(⌜acc = carry a u h k⌝ ∗ owns (c : Thread nD τ) arg13 fullShare a ∗ owns (c : Thread nD τ) arg14 fullShare (upto a u h k))

theorem trip_sound (arg2 : Memref sig .tc .vmem S1x256x1024 .f32) (harg2 : arg2.IsWhole) (arg3 : Memref sig .tc .vmem S1024x1024 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S264x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x512 .f32) (harg15 : arg15.IsWhole) (a u : Vec F S256x512 .f32) (h : Vec F S8x512 .f32) (k : Fin k0_t1_loop.trips) (acc : Vec F S8x512 .f32) :
    inv c arg13 arg14 a u h k.val acc
      ⊢ wp frame (wpE (defs₀ (F := F)) 𝒱 c bd) E (k0_t1_body i arg2 harg2 arg3 harg3 arg4 harg4 arg5 harg5 arg6 harg6 arg7 harg7 arg8 harg8 arg9 harg9 arg10 harg10 arg11 harg11 arg12 harg12 arg13 harg13 arg14 harg14 arg15 harg15 rows k acc) (inv c arg13 arg14 a u h (k.val + 1)) := by
  have hk : k.val < 32 := Nat.lt_of_lt_of_eq k.isLt trips_eq
  unfold k0_t1_body inv
  iintro ⟨%he, H13, H14⟩
  subst he
  rw [wp_bind]
  iapply (load_grp 𝒱 c bd E k)
  isplitl [H13]; · iexact H13
  iintro H13
  beta_reduce
  rw [wp_bind]
  iapply (load_grp 𝒱 c bd E k)
  isplitl [H14]; · iexact H14
  iintro H14
  beta_reduce
  rw [wp_bind]
  iapply (load_grp 𝒱 c bd E k)
  isplitl [H14]; · iexact H14
  iintro H14
  beta_reduce
  rw [grp_upto a u h k.val hk]
  rw [wp_bind]
  iapply (store_grp 𝒱 c bd E k a u h)
  isplitl [H14]; · iexact H14
  iintro H14
  beta_reduce
  rw [wp_pure]
  imodintro
  isplitr
  · ipureintro; rfl
  isplitl [H13]; · iexact H13
  iexact H14

set_option maxHeartbeats 1000000 in
theorem body_sound (arg2 : Memref sig .tc .vmem S1x256x1024 .f32) (harg2 : arg2.IsWhole) (arg3 : Memref sig .tc .vmem S1024x1024 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x256 .bf16) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S264x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x512 .f32) (harg15 : arg15.IsWhole)
    (I : Inp F) (p h : Vec F S8x512 .f32) (d11 : Vec F S1x256x512 .bf16) (d12 : Vec F S264x512 .f32) (d13 d14 : Vec F S256x512 .f32) (d15 : Vec F S8x512 .f32)
    (hf : fresh i → p = k0_pay6 ∧ h = k0_pay7) (hn : ¬ fresh i → putTop p d12 = d12 ∧ d15 = h)
    {Q : PUnit → sProp 𝕄} :
    iprop(owns (c : Thread nD τ) arg2 fullShare I.x
      ∗ owns (c : Thread nD τ) arg3 fullShare I.w
      ∗ owns (c : Thread nD τ) arg4 fullShare I.cw
      ∗ owns (c : Thread nD τ) arg5 fullShare I.cb
      ∗ owns (c : Thread nD τ) arg6 fullShare I.wr
      ∗ owns (c : Thread nD τ) arg7 fullShare I.br
      ∗ owns (c : Thread nD τ) arg8 fullShare I.wi
      ∗ owns (c : Thread nD τ) arg9 fullShare I.bi
      ∗ owns (c : Thread nD τ) arg10 fullShare I.lam
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ ((owns (c : Thread nD τ) arg2 fullShare I.x
      ∗ owns (c : Thread nD τ) arg3 fullShare I.w
      ∗ owns (c : Thread nD τ) arg4 fullShare I.cw
      ∗ owns (c : Thread nD τ) arg5 fullShare I.cb
      ∗ owns (c : Thread nD τ) arg6 fullShare I.wr
      ∗ owns (c : Thread nD τ) arg7 fullShare I.br
      ∗ owns (c : Thread nD τ) arg8 fullShare I.wi
      ∗ owns (c : Thread nD τ) arg9 fullShare I.bi
      ∗ owns (c : Thread nD τ) arg10 fullShare I.lam
      ∗ owns (c : Thread nD τ) arg11 fullShare (outv I p h)
      ∗ owns (c : Thread nD τ) arg12 fullShare (putTop (pnew I) (xb I p))
      ∗ owns (c : Thread nD τ) arg13 fullShare (av I p)
      ∗ owns (c : Thread nD τ) arg14 fullShare (states (av I p) (uv I p) h)
      ∗ owns (c : Thread nD τ) arg15 fullShare (hnew I p h))
        -∗ Q ⟨⟩))
      ⊢ wp frame (wpE (defs₀ (F := F)) 𝒱 c bd) E (cc0_lru_branch i arg2 harg2 arg3 harg3 arg4 harg4 arg5 harg5 arg6 harg6 arg7 harg7 arg8 harg8 arg9 harg9 arg10 harg10 arg11 harg11 arg12 harg12 arg13 harg13 arg14 harg14 arg15 harg15) Q := by
  rw [cc0_lru_branch_eq_skeleton]
  unfold cc0_lru_branch_skel
  iintro ⟨H2, H3, H4, H5, H6, H7, H8, H9, H10, H11, H12, H13, H14, H15, HK⟩
  rw [wp_bind]
  iapply (part1_sound 𝒱 c bd E i arg2 harg2 arg3 harg3 arg4 harg4 arg5 harg5 arg6 harg6 arg7 harg7 arg8 harg8 arg9 harg9 arg10 harg10 arg11 harg11 arg12 harg12 arg13 harg13 arg14 harg14 arg15 harg15 I p h d12 d15 hf hn)
  isplitl [H2]; · iexact H2
  isplitl [H3]; · iexact H3
  isplitl [H4]; · iexact H4
  isplitl [H5]; · iexact H5
  isplitl [H12]; · iexact H12
  isplitl [H15]; · iexact H15
  iintro ⟨H2, H3, H4, H5, H12, H15⟩
  dsimp only
  rw [wp_bind]
  iapply (part2_sound 𝒱 c bd E i arg2 harg2 arg3 harg3 arg4 harg4 arg5 harg5 arg6 harg6 arg7 harg7 arg8 harg8 arg9 harg9 arg10 harg10 arg11 harg11 arg12 harg12 arg13 harg13 arg14 harg14 arg15 harg15 I p)
  isplitl [H4]; · iexact H4
  isplitl [H6]; · iexact H6
  isplitl [H7]; · iexact H7
  isplitl [H8]; · iexact H8
  isplitl [H12]; · iexact H12
  iintro ⟨H4, H6, H7, H8, H12⟩
  dsimp only
  rw [wp_bind]
  iapply (part3_sound 𝒱 c bd E i arg2 harg2 arg3 harg3 arg4 harg4 arg5 harg5 arg6 harg6 arg7 harg7 arg8 harg8 arg9 harg9 arg10 harg10 arg11 harg11 arg12 harg12 arg13 harg13 arg14 harg14 arg15 harg15 I p h d13 d14)
  isplitl [H9]; · iexact H9
  isplitl [H10]; · iexact H10
  isplitl [H15]; · iexact H15
  isplitl [H13]; · iexact H13
  isplitl [H14]; · iexact H14
  iintro ⟨H9, H10, H15, H13, H14⟩
  dsimp only
  rw [wp_bind]
  iapply (Scf.wp_for frame (wpE (defs₀ (F := F)) 𝒱 c bd) E k0_t1_loop.lb k0_t1_loop.ub k0_t1_loop.st k0_t1_ok _ _ (inv c arg13 arg14 (av I p) (uv I p) h)
    (trip_sound 𝒱 c bd E i arg2 harg2 arg3 harg3 arg4 harg4 arg5 harg5 arg6 harg6 arg7 harg7 arg8 harg8 arg9 harg9 arg10 harg10 arg11 harg11 arg12 harg12 arg13 harg13 arg14 harg14 arg15 harg15 (av I p) (uv I p) h))
  isplitl [H13 H14]
  · unfold inv
    isplitr
    · ipureintro; rfl
    isplitl [H13]; · iexact H13
    rw [upto_zero]; iexact H14
  iintro %acc HI
  rw [show Scf.trips k0_t1_loop.lb k0_t1_loop.ub k0_t1_loop.st = 32 from trips_eq]
  unfold inv
  rw [upto_all]
  icases HI with ⟨%hacc, H13, H14⟩
  subst hacc
  rw [wp_bind]
  iapply (load_whole 𝒱 c bd E)
  isplitl [H15]; · iexact H15
  iintro H15
  beta_reduce
  rw [wp_bind]
  iapply (store_whole 𝒱 c bd E)
  isplitl [H15]; · iexact H15
  iintro H15
  beta_reduce
  rw [wp_bind]
  iapply (load_whole 𝒱 c bd E)
  isplitl [H14]; · iexact H14
  iintro H14
  beta_reduce
  rw [wp_bind]
  iapply (load_whole 𝒱 c bd E)
  isplitl [H11]; · iexact H11
  iintro H11
  beta_reduce
  rw [wp_bind]
  iapply (store_whole 𝒱 c bd E)
  isplitl [H11]; · iexact H11
  iintro H11
  beta_reduce
  rw [wp_pure]
  imodintro
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.LruIdeal.Body

end
-- ==== Proof.Lru.Frame.lean ====
/-
  The recurrence kernel's run: what every point finds and leaves, the pipeline's proof data, and the frame.
-/
module

public import proofs.«01_k».proof.Proof.Lru.Parts
public import Idealize.ShloMosaic.Lib.Claim

@[expose] public section

set_option maxRecDepth 16384

noncomputable section

namespace Cert.LruIdeal.Body

open Cert.LruIdeal Cert.LruIdeal.Gen Cert.LruRules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What point `t` reads. -/
def inp (t : Fin cfg0.N) : Inp F where
  x := iblk m c 0 t
  w := iblk m c 1 t
  cw := iblk m c 2 t
  cb := iblk m c 3 t
  wr := iblk m c 4 t
  br := iblk m c 5 t
  wi := iblk m c 6 t
  bi := iblk m c 7 t
  lam := iblk m c 8 t

/-- Point `n`, counted around the grid. -/
def pt (n : Nat) : Fin cfg0.N := ⟨n % 64, by have : cfg0.N = 64 := N_0; omega⟩

theorem pt_val (t : Fin cfg0.N) : pt t.val = t := by
  have : cfg0.N = 64 := N_0
  exact Fin.ext (Nat.mod_eq_of_lt (by have := t.isLt; omega))

/-- The rows kept and the state carried that point `n` works from. -/
def st : Nat → Vec F S8x512 .f32 × Vec F S8x512 .f32
  | 0 => (k0_pay6, k0_pay7)
  | n + 1 => if (n + 1) % 8 = 0 then (k0_pay6, k0_pay7)
    else (pnew (inp m c (pt n)), hnew (inp m c (pt n)) (st n).1 (st n).2)

theorem st_fresh (n : Nat) (h : n % 8 = 0) : st m c n = (k0_pay6, k0_pay7) := by
  cases n with
  | zero => rfl
  | succ n => exact if_pos h

theorem st_next (n : Nat) (h : ¬ (n + 1) % 8 = 0) :
    st m c (n + 1) = (pnew (inp m c (pt n)), hnew (inp m c (pt n)) (st m c n).1 (st m c n).2) := if_neg h

/-- What point `t` writes. -/
def out (t : Fin cfg0.N) : Vec F S1x256x512 .bf16 := outv (inp m c t) (st m c t.val).1 (st m c t.val).2

theorem fresh_iff (t : Fin cfg0.N) : fresh (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [fresh, e1]
  word_cmp

theorem putTop_putTop (p p' : Vec F S8x512 .f32) (d : Vec F S264x512 .f32) : putTop p (putTop p d) = putTop p d := by
  funext y
  unfold putTop
  by_cases h : (y 0).val < 8
  · rw [dif_pos h, dif_pos h]
  · rw [dif_neg h, dif_neg h]

/-! ## The proof data -/

abbrev sc0 : Memref sig .tc .vmem S264x512 .f32 := Memref.whole cc0_scratch0
abbrev sc1 : Memref sig .tc .vmem S256x512 .f32 := Memref.whole cc0_scratch1
abbrev sc2 : Memref sig .tc .vmem S256x512 .f32 := Memref.whole cc0_scratch2
abbrev sc3 : Memref sig .tc .vmem S8x512 .f32 := Memref.whole cc0_scratch3

/-- Between points: the scratch at some contents, the kept rows and the carried state among them unless a new
    sequence starts. -/
def Phi (n : Nat) : sProp 𝕄 :=
  iprop((∃ d0 d1 d2 d3, ⌜¬ n % 8 = 0 → putTop (st m c n).1 d0 = d0 ∧ d3 = (st m c n).2⌝
      ∗ owns (c : Thread nD τ) sc0 fullShare d0 ∗ owns (c : Thread nD τ) sc1 fullShare d1
      ∗ owns (c : Thread nD τ) sc2 fullShare d2 ∗ owns (c : Thread nD τ) sc3 fullShare d3)
    ∗ (∃ r, prngReg c r))

theorem PhiA_eq :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d))
        ∗ (∃ r, prngReg c r)) := by
  unfold Pipeline.ΦA; rw [scopedRest0_eq]; simp only [sc0, sc1, sc2, sc3, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out m c t
  Φ t := Phi m c t.val
  q _ := fullShare
  owed _ := 0

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = out m c t := by dsimp only [dats]

theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d
theorem before_2 (t : Fin cfg0.N) (d) : (dats m 0 c).before 2 t d = iblk m c 2 t :=
  before0_2_of m (dats m 0 c) (A_eq m c 2) (after_2 m c) t d
theorem before_3 (t : Fin cfg0.N) (d) : (dats m 0 c).before 3 t d = iblk m c 3 t :=
  before0_3_of m (dats m 0 c) (A_eq m c 3) (after_3 m c) t d
theorem before_4 (t : Fin cfg0.N) (d) : (dats m 0 c).before 4 t d = iblk m c 4 t :=
  before0_4_of m (dats m 0 c) (A_eq m c 4) (after_4 m c) t d
theorem before_5 (t : Fin cfg0.N) (d) : (dats m 0 c).before 5 t d = iblk m c 5 t :=
  before0_5_of m (dats m 0 c) (A_eq m c 5) (after_5 m c) t d
theorem before_6 (t : Fin cfg0.N) (d) : (dats m 0 c).before 6 t d = iblk m c 6 t :=
  before0_6_of m (dats m 0 c) (A_eq m c 6) (after_6 m c) t d
theorem before_7 (t : Fin cfg0.N) (d) : (dats m 0 c).before 7 t d = iblk m c 7 t :=
  before0_7_of m (dats m 0 c) (A_eq m c 7) (after_7 m c) t d
theorem before_8 (t : Fin cfg0.N) (d) : (dats m 0 c).before 8 t d = iblk m c 8 t :=
  before0_8_of m (dats m 0 c) (A_eq m c 8) (after_8 m c) t d

theorem leaves_0 (t : Fin cfg0.N) : (dats m 0 c).leavesExact 0 t = owns (c : Thread nD τ) (st0_0 t) fullShare (iblk m c 0 t) := by
  unfold Dat.leavesExact
  rw [show cfg0.idle 0 (grid0.coords t) = false from rfl, after_0]
theorem leaves_1 (t : Fin cfg0.N) : (dats m 0 c).leavesExact 1 t = owns (c : Thread nD τ) (st0_1 t) fullShare (iblk m c 1 t) := by
  unfold Dat.leavesExact
  rw [show cfg0.idle 1 (grid0.coords t) = false from rfl, after_1]
theorem leaves_2 (t : Fin cfg0.N) : (dats m 0 c).leavesExact 2 t = owns (c : Thread nD τ) (st0_2 t) fullShare (iblk m c 2 t) := by
  unfold Dat.leavesExact
  rw [show cfg0.idle 2 (grid0.coords t) = false from rfl, after_2]
theorem leaves_3 (t : Fin cfg0.N) : (dats m 0 c).leavesExact 3 t = owns (c : Thread nD τ) (st0_3 t) fullShare (iblk m c 3 t) := by
  unfold Dat.leavesExact
  rw [show cfg0.idle 3 (grid0.coords t) = false from rfl, after_3]
theorem leaves_4 (t : Fin cfg0.N) : (dats m 0 c).leavesExact 4 t = owns (c : Thread nD τ) (st0_4 t) fullShare (iblk m c 4 t) := by
  unfold Dat.leavesExact
  rw [show cfg0.idle 4 (grid0.coords t) = false from rfl, after_4]
theorem leaves_5 (t : Fin cfg0.N) : (dats m 0 c).leavesExact 5 t = owns (c : Thread nD τ) (st0_5 t) fullShare (iblk m c 5 t) := by
  unfold Dat.leavesExact
  rw [show cfg0.idle 5 (grid0.coords t) = false from rfl, after_5]
theorem leaves_6 (t : Fin cfg0.N) : (dats m 0 c).leavesExact 6 t = owns (c : Thread nD τ) (st0_6 t) fullShare (iblk m c 6 t) := by
  unfold Dat.leavesExact
  rw [show cfg0.idle 6 (grid0.coords t) = false from rfl, after_6]
theorem leaves_7 (t : Fin cfg0.N) : (dats m 0 c).leavesExact 7 t = owns (c : Thread nD τ) (st0_7 t) fullShare (iblk m c 7 t) := by
  unfold Dat.leavesExact
  rw [show cfg0.idle 7 (grid0.coords t) = false from rfl, after_7]
theorem leaves_8 (t : Fin cfg0.N) : (dats m 0 c).leavesExact 8 t = owns (c : Thread nD τ) (st0_8 t) fullShare (iblk m c 8 t) := by
  unfold Dat.leavesExact
  rw [show cfg0.idle 8 (grid0.coords t) = false from rfl, after_8]
theorem leaves_9 (t : Fin cfg0.N) : (dats m 0 c).leavesExact 9 t = owns (c : Thread nD τ) (st0_9 t) fullShare (out m c t) := by
  unfold Dat.leavesExact
  rw [show cfg0.idle 9 (grid0.coords t) = false from rfl, after_9]

/-- What the body is called with at point `t`, and what it returns. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2000000 in
theorem sound (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, leaves_0, leaves_1, leaves_2, leaves_3, leaves_4, leaves_5, leaves_6, leaves_7, leaves_8, leaves_9]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  unfold Phi
  iintro ⟨⟨⟨%d0, %d1, %d2, %d3, %hd, HS0, HS1, HS2, HS3⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
  iapply (body_sound Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) sc0 (Memref.isWhole_whole _) sc1 (Memref.isWhole_whole _) sc2 (Memref.isWhole_whole _) sc3 (Memref.isWhole_whole _)
    (inp m c t) (st m c t.val).1 (st m c t.val).2 ((dats m 0 c).before 9 t e9) d0 d1 d2 d3
    (fun h => by rw [st_fresh m c t.val ((fresh_iff t).mp h)]; exact ⟨rfl, rfl⟩)
    (fun h => hd fun h' => h ((fresh_iff t).mpr h')))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · iexists _, _, _, _
      isplitr
      swap
      · isplitl [HS0]; · iexact HS0
        isplitl [HS1]; · iexact HS1
        isplitl [HS2]; · iexact HS2
        iexact HS3
      ipureintro
      intro h
      rw [st_next m c t.val h, pt_val]
      exact ⟨putTop_putTop _ (pnew (inp m c t)) _, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row (t : Fin cfg0.N) :
    defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (sound m c t) rfl .rfl fun _ => .rfl

theorem hin : Pipeline.ΦA spec0 c ⊢ (dats m 0 c).Φ 0 := by
  rw [show (dats m 0 c).Φ 0 = Phi m c 0 from rfl, PhiA_eq]
  unfold Phi
  iintro ⟨⟨⟨%d0, HS0⟩, ⟨%d1, HS1⟩, ⟨%d2, HS2⟩, ⟨%d3, HS3⟩⟩, Hg⟩
  isplitl [HS0 HS1 HS2 HS3]
  · iexists d0, d1, d2, d3
    isplitr
    · ipureintro; exact fun h => absurd rfl h
    isplitl [HS0]; · iexact HS0
    isplitl [HS1]; · iexact HS1
    isplitl [HS2]; · iexact HS2
    iexact HS3
  iexact Hg

theorem hout : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%d0, %d1, %d2, %d3, %hd, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every execution ends, with every array of the pipeline at what the proof data says, every other buffer as it was
    found, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.LruIdeal.Body

end
-- ==== Proof.Lru.Math.lean ====
/-
  The recurrent branch of a layer over the extended reals: the convolution, the gates, the recurrence's coefficients,
  the recurrence itself, and what the order of its steps does not change.
-/
module

public import Idealize.ShloMosaic.Lib.Pointwise
public import Idealize.ShloMosaic.Lib.Claim

@[expose] public section

noncomputable section

namespace Cert.LruMath

open Idealize.ShloMosaic

abbrev SX : Shape := ⟨3, ![8, 2048, 1024]⟩
abbrev SW : Shape := ⟨3, ![1, 1024, 2560]⟩
abbrev SC : Shape := ⟨3, ![1, 4, 512]⟩
abbrev SB : Shape := ⟨2, ![1, 512]⟩
abbrev SG : Shape := ⟨4, ![1, 8, 64, 64]⟩

/-- The arguments. -/
structure Args where
  x : FVec Ideal SX .f32
  w : FVec Ideal SW .f32
  cw : FVec Ideal SC .f32
  cb : FVec Ideal SB .f32
  wr : FVec Ideal SG .f32
  br : FVec Ideal SB .f32
  wi : FVec Ideal SG .f32
  bi : FVec Ideal SB .f32
  lam : FVec Ideal SB .f32

abbrev c0 : EReal := Ideal.ofBits .f32 0x00000000#32
abbrev c1 : EReal := Ideal.ofBits .f32 0x3F800000#32
abbrev c2 : EReal := Ideal.ofBits .f32 0x40000000#32
abbrev cm8 : EReal := Ideal.ofBits .f32 0xC1000000#32
abbrev half : EReal := Ideal.ofBits .f32 0x3F000000#32
abbrev g0 : EReal := Ideal.ofBits .f32 0x3D372713#32
abbrev g1 : EReal := Ideal.ofBits .f32 0x3F4C422A#32

variable (A : Args)

/-- Column `e` of the projection of position `s` of sequence `n`. -/
def proj (n : Fin 8) (s : ℕ) (e : Fin 2560) : EReal :=
  ∑ d : Fin 1024, A.x (ix3 n ⟨s % 2048, Nat.mod_lt _ (by decide)⟩ d) * A.w (ix3 0 d e)
/-- The recurrent half of the projection, eight zeros before it. -/
def before (n : Fin 8) (j : Fin 512) (i : ℕ) : EReal :=
  if i < 8 then 0 else proj A n (i - 8) ⟨1536 + j.val, by omega⟩
/-- The convolution over four positions. -/
def conv (n : Fin 8) (j : Fin 512) (s : ℕ) : EReal :=
  A.cb (ix2 0 j) + A.cw (ix3 0 3 j) * before A n j (s + 8) + A.cw (ix3 0 2 j) * before A n j (s + 7)
    + A.cw (ix3 0 1 j) * before A n j (s + 6) + A.cw (ix3 0 0 j) * before A n j (s + 5)
/-- A gate: column `j` of the product by the block diagonal matrix of blocks `W`, a bias, and the logistic function. -/
def gate (W : FVec Ideal SG .f32) (b : FVec Ideal SB .f32) (n : Fin 8) (j : Fin 512) (s : ℕ) : EReal :=
  Ideal.logistic ((∑ d : Fin 64, conv A n ⟨64 * (j.val / 64) + d.val, by omega⟩ s
    * W (ix4 0 ⟨j.val / 64, by omega⟩ d ⟨j.val % 64, Nat.mod_lt _ (by decide)⟩)) + b (ix2 0 j))
/-- `log (1 + exp (-x))`. -/
def soft (x : EReal) : EReal := max (0 - x) 0 + Ideal.log (1 + Ideal.exp (0 - max x (-x)))
def logA (n : Fin 8) (j : Fin 512) (s : ℕ) : EReal := cm8 * gate A A.wr A.br n j s * soft (A.lam (ix2 0 j))
/-- The recurrence's coefficients. -/
def ca (n : Fin 8) (j : Fin 512) (s : ℕ) : EReal := Ideal.exp (logA A n j s)
def cu (n : Fin 8) (j : Fin 512) (s : ℕ) : EReal :=
  Ideal.sqrt (1 - Ideal.exp (c2 * logA A n j s)) * (gate A A.wi A.bi n j s * conv A n j s)

/-- `h (s + 1) = a s * h s + u s`. -/
def rec (a u : ℕ → EReal) (h : EReal) : ℕ → EReal
  | 0 => h
  | s + 1 => a s * rec a u h s + u s

/-- The state after position `s`. -/
def state (n : Fin 8) (j : Fin 512) (s : ℕ) : EReal := rec (ca A n j) (cu A n j) 0 s
/-- The approximate Gaussian error unit. -/
def gelu (g : EReal) : EReal := half * g * (1 + Ideal.tanh (g1 * (g + g0 * (g * g * g))))
/-- The branch's result. -/
def out (n : Fin 8) (s : ℕ) (j : Fin 512) : EReal :=
  state A n j (s + 1) * gelu (proj A n s ⟨2048 + j.val, by omega⟩)

theorem rec_add (a u : ℕ → EReal) (h : EReal) (p q : ℕ) :
    rec a u h (p + q) = rec (fun s => a (p + s)) (fun s => u (p + s)) (rec a u h p) q := by
  induction q with
  | zero => rfl
  | succ q ih => show a (p + q) * rec a u h (p + q) + u (p + q) = _; rw [ih]; rfl

theorem rec_congr {a a' u u' : ℕ → EReal} {h h' : EReal} (q : ℕ) (ha : ∀ s, s < q → a s = a' s)
    (hu : ∀ s, s < q → u s = u' s) (hh : h = h') : rec a u h q = rec a' u' h' q := by
  induction q with
  | zero => exact hh
  | succ q ih =>
    show a q * rec a u h q + u q = a' q * rec a' u' h' q + u' q
    rw [ih (fun s hs => ha s (by omega)) (fun s hs => hu s (by omega)), ha q (by omega), hu q (by omega)]

/-! ## A coefficient is a number between 0 and 1 -/

/-- A number at least 0 and below infinity. -/
def Fine (x : EReal) : Prop := 0 ≤ x ∧ x ≠ ⊤

theorem Fine.mul {x y : EReal} (hx : Fine x) (hy : Fine y) : Fine (x * y) := by
  obtain ⟨hx0, hx1⟩ := hx
  obtain ⟨hy0, hy1⟩ := hy
  induction x using EReal.rec with
  | bot => exact absurd hx0 (by decide)
  | top => exact absurd rfl hx1
  | coe x =>
    induction y using EReal.rec with
    | bot => exact absurd hy0 (by decide)
    | top => exact absurd rfl hy1
    | coe y =>
      rw [← EReal.coe_mul]
      exact ⟨EReal.coe_nonneg.mpr (mul_nonneg (EReal.coe_nonneg.mp hx0) (EReal.coe_nonneg.mp hy0)), EReal.coe_ne_top _⟩

/-- Two steps at once. -/
theorem two {A2 : EReal} (h2 : Fine A2) (A1 U1 U2 h : EReal) :
    A2 * A1 * h + (A2 * U1 + U2) = A2 * (A1 * h + U1) + U2 := by
  rw [EReal.left_distrib_of_nonneg_of_ne_top h2.1 h2.2, mul_assoc, add_assoc]

theorem exp_fine {x : EReal} (hx : x ≤ 0) : Fine (Ideal.exp x) := by
  induction x using EReal.rec with
  | bot => exact ⟨le_refl _, by decide⟩
  | top => exact absurd hx (by decide)
  | coe x => exact ⟨EReal.coe_nonneg.mpr (Real.exp_pos x).le, EReal.coe_ne_top _⟩

theorem exp_nonneg (x : EReal) : 0 ≤ Ideal.exp x := by
  induction x using EReal.rec with
  | bot => exact le_refl _
  | top => exact le_top
  | coe x => exact EReal.coe_nonneg.mpr (Real.exp_pos x).le

theorem log_nonneg {x : EReal} (hx : 0 ≤ x) : 0 ≤ Ideal.log (1 + x) := by
  induction x using EReal.rec with
  | bot => exact absurd hx (by decide)
  | top => rw [EReal.add_top_of_ne_bot (by decide)]; exact le_top
  | coe x =>
    have hx' : (0 : ℝ) ≤ x := EReal.coe_nonneg.mp hx
    rw [← EReal.coe_one, ← EReal.coe_add]
    show (0 : EReal) ≤ if 1 + x ≤ 0 then ⊥ else ((Real.log (1 + x) : ℝ) : EReal)
    rw [if_neg (by linarith)]
    exact EReal.coe_nonneg.mpr (Real.log_nonneg (by linarith))

theorem soft_nonneg (x : EReal) : 0 ≤ soft x :=
  add_nonneg (le_max_right _ _) (log_nonneg (exp_nonneg _))

theorem logistic_nonneg (x : EReal) : 0 ≤ Ideal.logistic x := by
  have hp : (0 : EReal) < 1 + Ideal.exp (-x) :=
    lt_of_lt_of_le zero_lt_one (le_add_of_nonneg_right (exp_nonneg _) : (1 : EReal) ≤ 1 + Ideal.exp (-x))
  show (0 : EReal) ≤ Ideal.div 1 (1 + Ideal.exp (-x))
  unfold Ideal.div
  rw [if_neg hp.ne', one_mul]
  exact EReal.inv_nonneg_of_nonneg hp.le

theorem logA_nonpos (n : Fin 8) (j : Fin 512) (s : ℕ) : logA A n j s ≤ 0 := by
  have hm : cm8 ≤ 0 := by
    have he : cm8 = ((-8 : ℝ) : EReal) := by simp [cm8, Ideal.ofBits, Ideal.ieee, -EReal.coe_mul]; norm_num
    rw [he]
    exact EReal.coe_nonpos.mpr (by norm_num)
  exact EReal.mul_nonpos_iff.mpr (Or.inr ⟨EReal.mul_nonpos_iff.mpr (Or.inr ⟨hm, logistic_nonneg _⟩), soft_nonneg _⟩)

theorem ca_fine (n : Fin 8) (j : Fin 512) (s : ℕ) : Fine (ca A n j s) := exp_fine (logA_nonpos A n j s)

end Cert.LruMath

end
-- ==== Proof.Lru.Pay.lean ====
/-
  What each piece of the recurrence kernel's body computes, read at an index over the extended reals.
-/
module

public import proofs.«01_k».proof.Proof.Lru.Places
public import proofs.«01_k».proof.Proof.Lru.Math
public import Idealize.ShloMosaic.Lib.KernelVsHost

@[expose] public section

set_option maxRecDepth 16384

noncomputable section

namespace Cert.LruIdeal.Body

open Cert.LruIdeal Cert.LruIdeal.Gen Idealize.ShloMosaic
open Cert.LruMath (c1)

/-! ## The projection, the convolution and the gates -/

theorem pay8_apply (x : FVec Ideal S1x256x1024 .f32) (w : FVec Ideal S1024x1024 .bf16) (r : Fin 256) (e : Fin 1024) :
    k0_pay8 (F := Ideal) x w (ix2 r e) = ∑ d : Fin 1024, x (ix3 0 r d) * w (ix2 d e) := by
  pointwise [k0_pay8]

theorem pay9_apply (x : FVec Ideal S1x256x1024 .f32) (w : FVec Ideal S1024x1024 .bf16) (r : Fin 256) (j : Fin 512) :
    k0_pay9 (F := Ideal) x w (ix2 r j) = k0_pay8 (F := Ideal) x w (ix2 r ⟨j.val, by omega⟩) := by
  generalize hP : k0_pay8 (F := Ideal) x w = P
  unfold k0_pay9
  rw [hP]
  exact extractStridedSlice_apply _ _ _ _ _ (fun a => by
    match a with
    | ⟨0, _⟩ => show r.val = 0 + r.val; omega
    | ⟨1, _⟩ => show j.val = 0 + j.val; omega)

theorem pay10_apply (x : FVec Ideal S1x256x1024 .f32) (w : FVec Ideal S1024x1024 .bf16) (r : Fin 256) (j : Fin 512) :
    k0_pay10 (F := Ideal) x w (ix2 r j) = k0_pay8 (F := Ideal) x w (ix2 r ⟨512 + j.val, by omega⟩) := by
  generalize hP : k0_pay8 (F := Ideal) x w = P
  unfold k0_pay10
  rw [hP]
  exact extractStridedSlice_apply _ _ _ _ _ (fun a => by
    match a with
    | ⟨0, _⟩ => show r.val = 0 + r.val; omega
    | ⟨1, _⟩ => rfl)

theorem pay11_apply (x : FVec Ideal S1x256x1024 .f32) (w : FVec Ideal S1024x1024 .bf16) (r : Fin 256) (j : Fin 512) :
    k0_pay11 (F := Ideal) x w (ix2 r j) = k0_pay9 (F := Ideal) x w (ix2 r j) := by
  generalize hP : k0_pay9 (F := Ideal) x w = P
  unfold k0_pay11
  rw [hP]
  exact shapeCast_apply _ _ _ (ix2 r j) rfl

theorem pay14_apply (P : FVec Ideal S256x512 .f32) (r : Fin 8) (j : Fin 512) :
    k0_pay14 (F := Ideal) P (ix2 r j) = P (ix2 ⟨248 + r.val, by omega⟩ j) := by
  unfold k0_pay14
  refine (shapeCast_apply _ _ _ (ix2 r j) rfl).trans ?_
  exact extractStridedSlice_apply _ _ _ _ _ (fun a => by
    match a with
    | ⟨0, _⟩ => rfl
    | ⟨1, _⟩ => show j.val = 0 + j.val; omega)

theorem pay13_apply (x : FVec Ideal S1x256x1024 .f32) (w : FVec Ideal S1024x1024 .bf16)
    (v14 v16 v22 v28 v34 : FVec Ideal S1x512 .f32) (v24 v30 v36 : FVec Ideal S256x512 .f32) (r : Fin 256) (j : Fin 512) :
    k0_pay13 (F := Ideal) (k0_pay12 x w v14 v16 v22 v24 v28 v30) v34 v36 (ix2 r j)
      = v14 (ix2 0 j) + v16 (ix2 0 j) * k0_pay9 (F := Ideal) x w (ix2 r j) + v22 (ix2 0 j) * v24 (ix2 r j)
        + v28 (ix2 0 j) * v30 (ix2 r j) + v34 (ix2 0 j) * v36 (ix2 r j) := by
  generalize hP : k0_pay9 (F := Ideal) x w = P
  pointwise [k0_pay13, k0_pay12]
  rw [hP]

/-- Column `j` of the product by a pair of matrices. -/
def mix (X : FVec Ideal S256x512 .f32) (W0 W1 : FVec Ideal S1x256x256 .bf16) (r : Fin 256) (j : Fin 512) : EReal :=
  if h : j.val < 256 then ∑ x : Fin 256, X (ix2 r ⟨x.val, by omega⟩) * W0 (ix3 0 x ⟨j.val, h⟩)
  else ∑ x : Fin 256, X (ix2 r ⟨256 + x.val, by omega⟩) * W1 (ix3 0 x ⟨j.val - 256, by omega⟩)

theorem pay15_eq (v33 : FVec Ideal S256x512 .f32) (v34 : FVec Ideal S1x512 .f32) (v36 : FVec Ideal S256x512 .f32) :
    k0_pay15 (F := Ideal) v33 v34 v36 = k0_pay13 (F := Ideal) v33 v34 v36 := rfl

theorem pay16_apply (v33 : FVec Ideal S256x512 .f32) (v34 : FVec Ideal S1x512 .f32) (v36 : FVec Ideal S256x512 .f32)
    (W0 W1 : FVec Ideal S1x256x256 .bf16) (b : FVec Ideal S1x512 .f32) (r : Fin 256) (j : Fin 512) :
    k0_pay16 (F := Ideal) v33 v34 v36 W0 W1 b (ix2 r j)
      = Ideal.logistic (mix (k0_pay13 (F := Ideal) v33 v34 v36) W0 W1 r j + b (ix2 0 j)) := by
  rw [← pay15_eq]
  generalize hP : k0_pay15 (F := Ideal) v33 v34 v36 = P
  pointwise [k0_pay16]
  rw [hP]
  rfl

theorem pay17_apply (v33 : FVec Ideal S256x512 .f32) (v34 : FVec Ideal S1x512 .f32) (v36 : FVec Ideal S256x512 .f32)
    (W0 W1 : FVec Ideal S1x256x256 .bf16) (r : Fin 256) (j : Fin 512) :
    k0_pay17 (F := Ideal) v33 v34 v36 W0 W1 (ix2 r j) = mix (k0_pay13 (F := Ideal) v33 v34 v36) W0 W1 r j := by
  rw [← pay15_eq]
  generalize hP : k0_pay15 (F := Ideal) v33 v34 v36 = P
  pointwise [k0_pay17]
  rw [hP]
  rfl

theorem pay18_apply (g : FVec Ideal S256x512 .f32) (b : FVec Ideal S1x512 .f32) (r : Fin 256) (j : Fin 512) :
    k0_pay18 (F := Ideal) g b (ix2 r j) = Cert.LruMath.cm8 * g (ix2 r j) * Cert.LruMath.soft (b (ix2 0 j)) := by
  pointwise [k0_pay18]
  rfl

theorem pay19_apply (g : FVec Ideal S256x512 .f32) (b : FVec Ideal S1x512 .f32) (r : Fin 256) (j : Fin 512) :
    k0_pay19 (F := Ideal) g b (ix2 r j)
      = Ideal.exp (Cert.LruMath.cm8 * g (ix2 r j) * Cert.LruMath.soft (b (ix2 0 j))) := by
  pointwise [k0_pay19, k0_pay18]
  rfl

theorem pay20_apply (y g g2 : FVec Ideal S256x512 .f32) (bi b : FVec Ideal S1x512 .f32) (r : Fin 256) (j : Fin 512) :
    k0_pay20 (F := Ideal) y g g2 bi b (ix2 r j)
      = Ideal.sqrt (1 - Ideal.exp (Cert.LruMath.c2
          * (Cert.LruMath.cm8 * g (ix2 r j) * Cert.LruMath.soft (b (ix2 0 j)))))
        * (Ideal.logistic (g2 (ix2 r j) + bi (ix2 0 j)) * y (ix2 r j)) := by
  rw [← pay18_apply]
  generalize hP : k0_pay18 (F := Ideal) g b = P
  pointwise [k0_pay20]
  rw [hP]

theorem pay5_apply (g s : FVec Ideal S256x512 .f32) (r : Fin 256) (j : Fin 512) :
    k0_pay5 (F := Ideal) g s (ix3 0 r j) = s (ix2 r j) * Cert.LruMath.gelu (g (ix2 r j)) := by
  pointwise [k0_pay5]
  rfl

/-! ## A group of eight rows -/

theorem rot (d : BitVec 32) (k : Fin 9) (hd : d.toNat = k.val) (x : FVec Ideal S8x512 .f32) (r : Fin 8) (j : Fin 512) :
    dynamicRotate 0 d none x rotates_S8x512_d0 (ix2 r j) = x (ix2 ⟨(r.val + 8 - k.val % 8) % 8, Nat.mod_lt _ (by decide)⟩ j) :=
  dynamicRotate_apply 0 d x rotates_S8x512_d0 (ix2 r j) _ (fun b => by
    match b with
    | ⟨0, _⟩ =>
      refine Eq.trans ?_ (if_pos rfl).symm
      show (r.val + 8 - k.val % 8) % 8 = (r.val + 8 - d.toNat % 8) % 8
      rw [hd]
    | ⟨1, _⟩ => rfl)

theorem sel (k d : BitVec 32) (x y : EReal) :
    Scalar.select (IntOp.cmpi CmpIPredicate.sge k d) x y = if BitVec.sle d k = true then x else y := by
  by_cases hc : BitVec.sle d k = true <;> simp [Scalar.select, IntOp.cmpi, hc]

/-- A group of eight rows: the recurrence from the state before it. -/
theorem pay1_apply (h a u : FVec Ideal S8x512 .f32) (j : Fin 512) (ha : ∀ r, Cert.LruMath.Fine (a (ix2 r j))) (r : Fin 8) :
    k0_pay1 (F := Ideal) rows h a u (ix2 r j)
      = Cert.LruMath.rec (fun s => a (ix2 ⟨s % 8, Nat.mod_lt _ (by decide)⟩ j))
          (fun s => u (ix2 ⟨s % 8, Nat.mod_lt _ (by decide)⟩ j)) (h (ix2 r j)) (r.val + 1) := by
  pointwise [k0_pay1, rot 1#32 1 rfl, rot 2#32 2 rfl, rot 4#32 4 rfl]
  generalize h (ix2 r j) = h0
  fin_cases r <;>
    simp [sel, Cert.LruMath.rec]
  all_goals try simp (maxDischargeDepth := 10) only [↓Cert.LruMath.two, Cert.LruMath.Fine.mul, ha]

theorem pay2_eq (v : IVec S8x512 32) (h a u : FVec Ideal S8x512 .f32) (r : Fin 8) (j : Fin 512) :
    k0_pay2 (F := Ideal) v h a u (ix2 r j) = k0_pay1 (F := Ideal) v h a u (ix2 r j) := by
  unfold k0_pay2
  exact shapeCast_apply _ _ _ (ix2 r j) rfl

theorem pay3_eq (v : IVec S8x512 32) (h a u : FVec Ideal S8x512 .f32) (r : Fin 8) (j : Fin 512) :
    k0_pay3 (F := Ideal) v h a u (ix2 r j) = k0_pay1 (F := Ideal) v h a u (ix2 7 j) := by
  generalize hP : k0_pay1 (F := Ideal) v h a u = P
  pointwise [k0_pay3]
  rw [hP]

theorem pay4_eq (h : FVec Ideal S8x512 .f32) : k0_pay4 (F := Ideal) h = h := by
  funext i
  unfold k0_pay4
  exact shapeCast_apply _ _ _ i rfl

theorem pay6_apply (i : S8x512.Idx) : k0_pay6 (F := Ideal) i = 0 := by
  rw [show i = ix2 (i 0) (i 1) from at2 rfl rfl]
  pointwise [k0_pay6]

theorem pay7_apply (i : S8x512.Idx) : k0_pay7 (F := Ideal) i = 0 := by
  rw [show i = ix2 (i 0) (i 1) from at2 rfl rfl]
  pointwise [k0_pay7]

end Cert.LruIdeal.Body

end
-- ==== Proof.Lru.Point.lean ====
/-
  One point of the recurrence kernel's grid over the extended reals: from the blocks it reads, the rows kept and the
  state carried, its 256 rows of the branch's result.
-/
module

public import proofs.«01_k».proof.Proof.Lru.Pay

@[expose] public section

set_option maxRecDepth 16384

noncomputable section

namespace Cert.LruIdeal.Body

open Cert.LruIdeal Cert.LruIdeal.Gen Idealize.ShloMosaic
open Cert.LruMath (Args Fine)

/-- The blocks of the point at rows `256 t …` of sequence `b`, in terms of the arguments. -/
structure Reads (A : Args) (b : Fin 8) (t : ℕ) (I : Inp Ideal) : Prop where
  x : ∀ (r : Fin 256) (d : Fin 1024), I.x (ix3 0 r d) = A.x (ix3 b ⟨(256 * t + r.val) % 2048, Nat.mod_lt _ (by decide)⟩ d)
  w : ∀ (d e : Fin 1024), I.w (ix2 d e) = A.w (ix3 0 d ⟨1536 + e.val, by omega⟩)
  cw : ∀ (k : Fin 4) (j : Fin 512), I.cw (ix2 k j) = A.cw (ix3 0 k j)
  cb : ∀ j : Fin 512, I.cb (ix2 0 j) = A.cb (ix2 0 j)
  br : ∀ j : Fin 512, I.br (ix2 0 j) = A.br (ix2 0 j)
  bi : ∀ j : Fin 512, I.bi (ix2 0 j) = A.bi (ix2 0 j)
  lam : ∀ j : Fin 512, I.lam (ix2 0 j) = A.lam (ix2 0 j)
  wr : ∀ (h : Fin 2) (k : Fin 4) (d e : Fin 64), I.wr (ix3 h ⟨64 * k.val + d.val, by omega⟩ ⟨64 * k.val + e.val, by omega⟩)
    = A.wr (ix4 0 ⟨4 * h.val + k.val, by omega⟩ d e)
  wr0 : ∀ (h : Fin 2) (x y : Fin 256), x.val / 64 ≠ y.val / 64 → I.wr (ix3 h x y) = 0
  wi : ∀ (h : Fin 2) (k : Fin 4) (d e : Fin 64), I.wi (ix3 h ⟨64 * k.val + d.val, by omega⟩ ⟨64 * k.val + e.val, by omega⟩)
    = A.wi (ix4 0 ⟨4 * h.val + k.val, by omega⟩ d e)
  wi0 : ∀ (h : Fin 2) (x y : Fin 256), x.val / 64 ≠ y.val / 64 → I.wi (ix3 h x y) = 0

variable {A : Args} {b : Fin 8} {t : ℕ} {I : Inp Ideal}

theorem proj_at (H : Reads A b t I) (r : Fin 256) (e : Fin 1024) :
    k0_pay8 (F := Ideal) I.x I.w (ix2 r e) = Cert.LruMath.proj A b (256 * t + r.val) ⟨1536 + e.val, by omega⟩ := by
  rw [pay8_apply]
  exact Finset.sum_congr rfl fun d _ => congrArg₂ (· * ·) (H.x r d) (H.w d e)

theorem xr_at (H : Reads A b t I) (r : Fin 256) (j : Fin 512) :
    k0_pay9 (F := Ideal) I.x I.w (ix2 r j) = Cert.LruMath.before A b j (256 * t + r.val + 8) := by
  rw [pay9_apply, proj_at H]
  exact (if_neg (by omega)).symm

theorem gr_at (H : Reads A b t I) (r : Fin 256) (j : Fin 512) :
    k0_pay10 (F := Ideal) I.x I.w (ix2 r j) = Cert.LruMath.proj A b (256 * t + r.val) ⟨2048 + j.val, by omega⟩ := by
  rw [pay10_apply, proj_at H]
  exact congrArg (Cert.LruMath.proj A b (256 * t + r.val)) (Fin.ext (show 1536 + (512 + j.val) = 2048 + j.val by omega))

/-- The rows kept are the eight rows before the point's own. -/
def Kept (A : Args) (b : Fin 8) (t : ℕ) (p : FVec Ideal S8x512 .f32) : Prop :=
  ∀ (r : Fin 8) (j : Fin 512), p (ix2 r j) = Cert.LruMath.before A b j (256 * t + r.val)
/-- The carried state is the state before the point's first row, in every row. -/
def Carried (A : Args) (b : Fin 8) (s : ℕ) (h : FVec Ideal S8x512 .f32) : Prop :=
  ∀ (r : Fin 8) (j : Fin 512), h (ix2 r j) = Cert.LruMath.state A b j s

variable {p h : FVec Ideal S8x512 .f32}

theorem xb_at (H : Reads A b t I) (K : Kept A b t p) (i : Fin 264) (j : Fin 512) :
    xb I p (ix2 i j) = Cert.LruMath.before A b j (256 * t + i.val) := by
  show join (F := Ideal) p (k0_pay11 (F := Ideal) I.x I.w) (ix2 i j) = _
  unfold join
  by_cases hi : i.val < 8
  · exact (dif_pos hi).trans (K ⟨i.val, hi⟩ j)
  · refine (dif_neg hi).trans ?_
    refine (pay11_apply I.x I.w ⟨i.val - 8, by omega⟩ j).trans ?_
    rw [xr_at H]
    exact congrArg (Cert.LruMath.before A b j) (show 256 * t + (i.val - 8) + 8 = 256 * t + i.val by omega)

theorem shift_at (H : Reads A b t I) (K : Kept A b t p) (d : Fin 9) (r : Fin 256) (j : Fin 512) :
    shift (xb I p) d (ix2 r j) = Cert.LruMath.before A b j (256 * t + r.val + d.val) :=
  (xb_at H K ⟨r.val + d.val, by omega⟩ j).trans
    (congrArg (Cert.LruMath.before A b j) (Nat.add_assoc _ _ _).symm)

theorem conv_at (H : Reads A b t I) (K : Kept A b t p) (r : Fin 256) (j : Fin 512) :
    conv I p (ix2 r j) = Cert.LruMath.conv A b j (256 * t + r.val) := by
  refine (pay13_apply _ _ _ _ _ _ _ _ _ _ r j).trans ?_
  rw [shift_at H K 7 r j, shift_at H K 6 r j, shift_at H K 5 r j, xr_at H, H.cb]
  show _ + I.cw (ix2 3 j) * _ + I.cw (ix2 2 j) * _ + I.cw (ix2 1 j) * _ + I.cw (ix2 0 j) * _ = _
  rw [H.cw, H.cw, H.cw, H.cw]
  rfl

/-- A sum over 256 of which 64 terms are not zero. -/
theorem collapse (C W : Fin 256 → EReal) (k : Fin 4) (hz : ∀ x : Fin 256, x.val / 64 ≠ k.val → W x = 0) :
    ∑ x, C x * W x = ∑ d : Fin 64, C ⟨64 * k.val + d.val, by omega⟩ * W ⟨64 * k.val + d.val, by omega⟩ := by
  refine (Fintype.sum_of_injective (fun d : Fin 64 => (⟨64 * k.val + d.val, by omega⟩ : Fin 256)) ?_ _ _ ?_ ?_).symm
  · intro d e hde
    have := congrArg Fin.val hde
    exact Fin.ext (by dsimp only at this; omega)
  · intro x hx
    rw [hz x, mul_zero]
    intro hk
    exact hx ⟨⟨x.val % 64, Nat.mod_lt _ (by decide)⟩, Fin.ext (show 64 * k.val + x.val % 64 = x.val by omega)⟩
  · intro d
    rfl

theorem mix_at (C : FVec Ideal S256x512 .f32) (M : FVec Ideal S2x256x256 .bf16) (W : FVec Ideal S1x8x64x64 .f32)
    (hW : ∀ (h : Fin 2) (k : Fin 4) (d e : Fin 64), M (ix3 h ⟨64 * k.val + d.val, by omega⟩ ⟨64 * k.val + e.val, by omega⟩)
      = W (ix4 0 ⟨4 * h.val + k.val, by omega⟩ d e))
    (hz : ∀ (h : Fin 2) (x y : Fin 256), x.val / 64 ≠ y.val / 64 → M (ix3 h x y) = 0) (r : Fin 256) (j : Fin 512) :
    mix C (matOf (F := Ideal) M 0) (matOf (F := Ideal) M 1) r j
      = ∑ d : Fin 64, C (ix2 r ⟨64 * (j.val / 64) + d.val, by omega⟩)
          * W (ix4 0 ⟨j.val / 64, by omega⟩ d ⟨j.val % 64, Nat.mod_lt _ (by decide)⟩) := by
  unfold mix
  by_cases hj : j.val < 256
  · rw [dif_pos hj]
    refine (collapse _ _ ⟨j.val / 64, by omega⟩ (fun x hx => hz 0 x ⟨j.val, hj⟩ hx)).trans ?_
    refine Finset.sum_congr rfl fun d _ => congrArg₂ (· * ·) rfl ?_
    have e := hW 0 ⟨j.val / 64, by omega⟩ d ⟨j.val % 64, Nat.mod_lt _ (by decide)⟩
    have e1 : (⟨64 * (j.val / 64) + j.val % 64, by omega⟩ : Fin 256) = ⟨j.val, hj⟩ := Fin.ext (show 64 * (j.val / 64) + j.val % 64 = j.val by omega)
    have e2 : (⟨4 * (0 : Fin 2).val + j.val / 64, by omega⟩ : Fin 8) = ⟨j.val / 64, by omega⟩ :=
      Fin.ext (show 4 * 0 + j.val / 64 = j.val / 64 by omega)
    exact (congrArg (fun z => M (ix3 0 _ z)) e1.symm).trans (e.trans (congrArg (fun z => W (ix4 0 z d _)) e2))
  · rw [dif_neg hj]
    refine (collapse _ _ ⟨(j.val - 256) / 64, by omega⟩ (fun x hx => hz 1 x ⟨j.val - 256, by omega⟩ hx)).trans ?_
    refine Finset.sum_congr rfl fun d _ => congrArg₂ (· * ·) ?_ ?_
    · exact congrArg (fun z => C (ix2 r z))
        (Fin.ext (show 256 + (64 * ((j.val - 256) / 64) + d.val) = 64 * (j.val / 64) + d.val by omega))
    have e := hW 1 ⟨(j.val - 256) / 64, by omega⟩ d ⟨j.val % 64, Nat.mod_lt _ (by decide)⟩
    have e1 : (⟨64 * ((j.val - 256) / 64) + j.val % 64, by omega⟩ : Fin 256) = ⟨j.val - 256, by omega⟩ :=
      Fin.ext (show 64 * ((j.val - 256) / 64) + j.val % 64 = j.val - 256 by omega)
    have e2 : (⟨4 * (1 : Fin 2).val + (j.val - 256) / 64, by omega⟩ : Fin 8) = ⟨j.val / 64, by omega⟩ :=
      Fin.ext (show 4 * 1 + (j.val - 256) / 64 = j.val / 64 by omega)
    exact (congrArg (fun z => M (ix3 1 _ z)) e1.symm).trans (e.trans (congrArg (fun z => W (ix4 0 z d _)) e2))

theorem gate1_at (H : Reads A b t I) (K : Kept A b t p) (r : Fin 256) (j : Fin 512) :
    gate1 I p (ix2 r j) = Cert.LruMath.gate A A.wr A.br b j (256 * t + r.val) := by
  refine (pay16_apply _ _ _ _ _ _ r j).trans ?_
  rw [mix_at _ I.wr A.wr H.wr H.wr0, H.br]
  exact congrArg (fun z => Ideal.logistic (z + A.br (ix2 0 j)))
    (Finset.sum_congr rfl fun d _ => congrArg₂ (· * ·) (conv_at H K r _) rfl)

theorem gate2_at (H : Reads A b t I) (K : Kept A b t p) (r : Fin 256) (j : Fin 512) :
    Ideal.logistic (gate2 I p (ix2 r j) + I.bi (ix2 0 j)) = Cert.LruMath.gate A A.wi A.bi b j (256 * t + r.val) := by
  refine (congrArg (fun z => Ideal.logistic (z + I.bi (ix2 0 j))) (pay17_apply _ _ _ _ _ r j)).trans ?_
  rw [mix_at _ I.wi A.wi H.wi H.wi0, H.bi]
  exact congrArg (fun z => Ideal.logistic (z + A.bi (ix2 0 j)))
    (Finset.sum_congr rfl fun d _ => congrArg₂ (· * ·) (conv_at H K r _) rfl)

theorem av_at (H : Reads A b t I) (K : Kept A b t p) (r : Fin 256) (j : Fin 512) :
    av I p (ix2 r j) = Cert.LruMath.ca A b j (256 * t + r.val) := by
  refine (pay19_apply _ _ r j).trans ?_
  rw [gate1_at H K, H.lam]
  rfl

theorem uv_at (H : Reads A b t I) (K : Kept A b t p) (r : Fin 256) (j : Fin 512) :
    uv I p (ix2 r j) = Cert.LruMath.cu A b j (256 * t + r.val) := by
  refine (pay20_apply _ _ _ _ _ r j).trans ?_
  rw [gate1_at H K, gate2_at H K, conv_at H K, H.lam]
  rfl

/-! ## The recurrence -/

theorem grp_at (X : FVec Ideal S256x512 .f32) (k : ℕ) (hk : k < 32) (r : Fin 8) (j : Fin 512) :
    grp (F := Ideal) X k (ix2 r j) = X (ix2 ⟨8 * k + r.val, by omega⟩ j) :=
  congrArg (fun z => X (ix2 z j)) (Fin.ext (show (8 * k + r.val) % 256 = 8 * k + r.val by omega))

/-- A group of eight rows carries the state on. -/
theorem group_at (H : Reads A b t I) (K : Kept A b t p) (k : ℕ) (hk : k < 32) {g : FVec Ideal S8x512 .f32}
    (hg : Carried A b (256 * t + 8 * k) g) (r : Fin 8) (j : Fin 512) :
    k0_pay1 (F := Ideal) rows g (grp (av I p) k) (grp (uv I p) k) (ix2 r j)
      = Cert.LruMath.state A b j (256 * t + 8 * k + (r.val + 1)) := by
  have ea : ∀ q : Fin 8, grp (av I p) k (ix2 q j) = Cert.LruMath.ca A b j (256 * t + 8 * k + q.val) := fun q => by
    rw [grp_at _ k hk, av_at H K]
    exact congrArg (Cert.LruMath.ca A b j) (Nat.add_assoc _ _ _).symm
  have eu : ∀ q : Fin 8, grp (uv I p) k (ix2 q j) = Cert.LruMath.cu A b j (256 * t + 8 * k + q.val) := fun q => by
    rw [grp_at _ k hk, uv_at H K]
    exact congrArg (Cert.LruMath.cu A b j) (Nat.add_assoc _ _ _).symm
  rw [pay1_apply g _ _ j (fun q => by rw [ea]; exact Cert.LruMath.ca_fine A b j _), hg]
  unfold Cert.LruMath.state
  refine Eq.trans ?_ (Cert.LruMath.rec_add _ _ _ (256 * t + 8 * k) (r.val + 1)).symm
  refine Cert.LruMath.rec_congr _ (fun s hs => ?_) (fun s hs => ?_) rfl
  · rw [ea]
    exact congrArg (Cert.LruMath.ca A b j) (show 256 * t + 8 * k + s % 8 = 256 * t + 8 * k + s by omega)
  · rw [eu]
    exact congrArg (Cert.LruMath.cu A b j) (show 256 * t + 8 * k + s % 8 = 256 * t + 8 * k + s by omega)

theorem carry_at (H : Reads A b t I) (K : Kept A b t p) (hh : Carried A b (256 * t) h) (k : ℕ) (hk : k ≤ 32) :
    Carried A b (256 * t + 8 * k) (carry (av I p) (uv I p) h k) := by
  induction k with
  | zero => exact hh
  | succ k ih =>
    intro r j
    show k0_pay3 (F := Ideal) rows (carry (av I p) (uv I p) h k) (grp (av I p) k) (grp (uv I p) k) (ix2 r j) = _
    rw [pay3_eq, group_at H K k (by omega) (ih (by omega))]
    exact congrArg (Cert.LruMath.state A b j) (show 256 * t + 8 * k + (7 + 1) = 256 * t + 8 * (k + 1) by omega)

theorem states_at (H : Reads A b t I) (K : Kept A b t p) (hh : Carried A b (256 * t) h) (r : Fin 256) (j : Fin 512) :
    states (av I p) (uv I p) h (ix2 r j) = Cert.LruMath.state A b j (256 * t + r.val + 1) := by
  show k0_pay2 (F := Ideal) rows (carry (av I p) (uv I p) h (r.val / 8)) (grp (av I p) (r.val / 8))
    (grp (uv I p) (r.val / 8)) (ix2 ⟨r.val % 8, Nat.mod_lt _ (by decide)⟩ j) = _
  rw [pay2_eq, group_at H K (r.val / 8) (by omega) (carry_at H K hh (r.val / 8) (by omega))]
  exact congrArg (Cert.LruMath.state A b j)
    (show 256 * t + 8 * (r.val / 8) + (r.val % 8 + 1) = 256 * t + r.val + 1 by omega)

/-- What the point stores, hands on and keeps. -/
theorem outv_at (H : Reads A b t I) (K : Kept A b t p) (hh : Carried A b (256 * t) h) (r : Fin 256) (j : Fin 512) :
    outv I p h (ix3 0 r j) = Cert.LruMath.out A b (256 * t + r.val) j := by
  refine (pay5_apply _ _ r j).trans ?_
  have eg : gr I (ix2 r j) = _ := gr_at H r j
  rw [states_at H K hh, eg]
  rfl

theorem hnew_at (H : Reads A b t I) (K : Kept A b t p) (hh : Carried A b (256 * t) h) :
    Carried A b (256 * (t + 1)) (hnew I p h) := by
  intro r j
  show k0_pay4 (F := Ideal) (carry (av I p) (uv I p) h 32) (ix2 r j) = _
  rw [pay4_eq, carry_at H K hh 32 (le_refl _)]
  exact congrArg (Cert.LruMath.state A b j) (show 256 * t + 8 * 32 = 256 * (t + 1) by omega)

theorem pnew_at (H : Reads A b t I) : Kept A b (t + 1) (pnew I) := by
  intro r j
  show k0_pay14 (F := Ideal) (k0_pay9 (F := Ideal) I.x I.w) (ix2 r j) = _
  rw [pay14_apply, xr_at H]
  exact congrArg (Cert.LruMath.before A b j) (show 256 * t + (248 + r.val) + 8 = 256 * (t + 1) + r.val by omega)

theorem kept_zero : Kept A b 0 (k0_pay6 (F := Ideal)) := by
  intro r j
  rw [pay6_apply]
  exact (if_pos (show 256 * 0 + r.val < 8 by omega)).symm

theorem carried_zero : Carried A b 0 (k0_pay7 (F := Ideal)) := fun r j => pay7_apply _

end Cert.LruIdeal.Body

end
-- ==== Proof.Lru.Kernel.lean ====
/-
  The recurrence kernel's result as a function of its arguments. A point of the grid works on 256 positions of one
  sequence, the points of a sequence in order; the result is tiled by the points' blocks.
-/
module

public import proofs.«01_k».proof.Proof.Lru.Frame
public import proofs.«01_k».proof.Proof.Lru.Point

@[expose] public section

set_option maxRecDepth 16384

noncomputable section

namespace Cert.LruIdeal.Body

open Cert.LruIdeal Cert.LruIdeal.Gen Idealize.ShloMosaic Idealize.ShloMosaic.TcCoe Idealize.SL.Sem
open Idealize.ShloMosaic.Pipeline (Dat)
open Cert.LruMath (Args)

variable (m : (ℓ : Loc nD τ sig) → Buf (Elt Ideal) ℓ) (c : Dev nD)

/-- The arguments. -/
def args : Args where
  x := m ((c : Thread nD τ).loc main_arg0)
  w := m ((c : Thread nD τ).loc main_arg1)
  cw := m ((c : Thread nD τ).loc main_arg2)
  cb := m ((c : Thread nD τ).loc main_arg3)
  wr := m ((c : Thread nD τ).loc main_arg4)
  br := m ((c : Thread nD τ).loc main_arg5)
  wi := m ((c : Thread nD τ).loc main_arg6)
  bi := m ((c : Thread nD τ).loc main_arg7)
  lam := m ((c : Thread nD τ).loc main_arg8)

/-- The result. -/
def G : FVec Ideal S8x2048x512 .bf16 := fun i => Cert.LruMath.out (args m c) (i 0) (i 1).val (i 2)

/-! ## The arrays the windows read -/

/-- A vector through two reshapes. -/
def twice (b : FVec Ideal S1x512 .f32) : FVec Ideal S1x512 .f32 :=
  shapeCast S1x512 (shapeCast S512 b shapeCasts_S1x512_S512) shapeCasts_S512_S1x512
/-- The identity matrix of four rows. -/
def eye4 : FVec Ideal S4x4 .f32 :=
  uitofp .f32 (cmpi .eq (addi (iotaInDim S4x4 32 0) (broadcastInDim S4x4 ![] bcast_S_S4x4 (constantI S_ 32 0#32))) (iotaInDim S4x4 32 1))
/-- Eight blocks laid out as two block diagonal matrices, at full shape. -/
def spread (W : FVec Ideal S1x8x64x64 .f32) : FVec Ideal S2x4x64x4x64 .f32 :=
  mulf (broadcastInDim S2x4x64x4x64 ![0, 1, 2, 3, 4] bcast_S2x4x64x1x64_S2x4x64x4x64_0_1_2_3_4
      (broadcastInDim S2x4x64x1x64 ![0, 1, 2, 4] bcast_S2x4x64x64_S2x4x64x1x64_0_1_2_4
        (shapeCast S2x4x64x64 (shapeCast S8x64x64 W shapeCasts_S1x8x64x64_S8x64x64) shapeCasts_S8x64x64_S2x4x64x64)))
    (broadcastInDim S2x4x64x4x64 ![0, 1, 2, 3, 4] bcast_S1x4x1x4x1_S2x4x64x4x64_0_1_2_3_4
      (broadcastInDim S1x4x1x4x1 ![1, 3] bcast_S4x4_S1x4x1x4x1_1_3 eye4))
def diag (W : FVec Ideal S1x8x64x64 .f32) : FVec Ideal S2x256x256 .bf16 :=
  truncf .bf16 (shapeCast S2x256x256 (spread W) shapeCasts_S2x4x64x4x64_S2x256x256) bitsLt_bf16_f32

theorem V2 : @Eq (FVec Ideal S1024x1024 .bf16) (V m c main_v2)
    (truncf .bf16 (shapeCast S1024x1024 (extractStridedSlice S1x1024x1024 ![0, 0, 1536] (args m c).w
      slices_S1x1024x2560_S1x1024x1024_0_0_1536) shapeCasts_S1x1024x1024_S1024x1024 : FVec Ideal S1024x1024 .f32) bitsLt_bf16_f32) := by
  unfold V
  after_results_simp <;> rfl
theorem V3 : @Eq (FVec Ideal S4x512 .f32) (V m c main_v3) (shapeCast S4x512 (args m c).cw shapeCasts_S1x4x512_S4x512) := by
  unfold V
  after_results_simp <;> rfl
theorem V5 : @Eq (FVec Ideal S1x512 .f32) (V m c main_v5) (twice (args m c).cb) := by
  unfold V
  after_results_simp <;> rfl
theorem V22 : @Eq (FVec Ideal S1x512 .f32) (V m c main_v22) (twice (args m c).br) := by
  unfold V
  after_results_simp <;> rfl
theorem V39 : @Eq (FVec Ideal S1x512 .f32) (V m c main_v39) (twice (args m c).bi) := by
  unfold V
  after_results_simp <;> rfl
theorem V41 : @Eq (FVec Ideal S1x512 .f32) (V m c main_v41) (twice (args m c).lam) := by
  unfold V
  after_results_simp <;> rfl
theorem V20 : @Eq (FVec Ideal S2x256x256 .bf16) (V m c main_v20) (diag (args m c).wr) := by
  unfold V
  after_results_simp <;> rfl
theorem V37 : @Eq (FVec Ideal S2x256x256 .bf16) (V m c main_v37) (diag (args m c).wi) := by
  unfold V
  after_results_simp <;> rfl

theorem twice_apply (b : FVec Ideal S1x512 .f32) (u : Fin 1) (j : Fin 512) : twice b (ix2 u j) = b (ix2 0 j) := by
  unfold twice
  refine (shapeCast_apply _ _ _ (ix1 j) ?_).trans (shapeCast_apply _ _ _ (ix2 0 j) ?_)
  · rw [Shape.rowMajor_val_one, Shape.rowMajor_val_two]; show j.val = u.val * 512 + j.val; omega
  · rw [Shape.rowMajor_val_one, Shape.rowMajor_val_two]; show 0 * 512 + j.val = j.val; omega

theorem weights (w : FVec Ideal S1x1024x2560 .f32) (d e : Fin 1024) :
    shapeCast S1024x1024 (extractStridedSlice S1x1024x1024 ![0, 0, 1536] w slices_S1x1024x2560_S1x1024x1024_0_0_1536)
      shapeCasts_S1x1024x1024_S1024x1024 (ix2 d e) = w (ix3 0 d ⟨1536 + e.val, by omega⟩) := by
  refine (shapeCast_apply _ _ _ (ix3 0 d e : S1x1024x1024.Idx) ?_).trans ?_
  · rw [Shape.rowMajor_val_two, Shape.rowMajor_val_three]
    show (0 * 1024 + d.val) * 1024 + e.val = d.val * 1024 + e.val
    omega
  · exact extractStridedSlice_apply _ _ _ _ _ (fun a => by
      match a with
      | ⟨0, _⟩ => rfl
      | ⟨1, _⟩ => show d.val = 0 + d.val; omega
      | ⟨2, _⟩ => rfl)

theorem taps (w : FVec Ideal S1x4x512 .f32) (k : Fin 4) (j : Fin 512) :
    shapeCast S4x512 w shapeCasts_S1x4x512_S4x512 (ix2 k j) = w (ix3 0 k j) := by
  refine shapeCast_apply _ _ _ (ix3 0 k j : S1x4x512.Idx) ?_
  rw [Shape.rowMajor_val_two, Shape.rowMajor_val_three]
  show (0 * 4 + k.val) * 512 + j.val = k.val * 512 + j.val
  omega

theorem eye_word : ∀ a b : Fin 4,
    (IntOp.cmpi .eq (BitVec.ofNat 32 a.val + 0#32) (BitVec.ofNat 32 b.val)).toNat = if a = b then 1 else 0 := by decide

theorem eye_apply (a b : Fin 4) : eye4 (ix2 a b) = if a = b then (1 : EReal) else 0 := by
  have h : eye4 (ix2 a b)
      = (((IntOp.cmpi .eq (BitVec.ofNat 32 a.val + 0#32) (BitVec.ofNat 32 b.val)).toNat : ℝ) : EReal) := rfl
  rw [h, eye_word]
  by_cases hab : a = b
  · rw [if_pos hab, if_pos hab]; norm_num
  · rw [if_neg hab, if_neg hab]; norm_num

theorem spread_apply (W : FVec Ideal S1x8x64x64 .f32) (h : Fin 2) (k : Fin 4) (d : Fin 64) (l : Fin 4) (e : Fin 64) :
    spread W (ix5 h k d l e : S2x4x64x4x64.Idx) = W (ix4 0 ⟨4 * h.val + k.val, by omega⟩ d e) * (if k = l then (1 : EReal) else 0) := by
  rw [← eye_apply]
  unfold spread
  refine congrArg₂ (· * ·) ?_ ?_
  · refine (broadcastInDim_apply _ _ _ _ (ix5 h k d 0 e : S2x4x64x1x64.Idx) (fun a => by
      match a with
      | ⟨0, _⟩ => rfl
      | ⟨1, _⟩ => rfl
      | ⟨2, _⟩ => rfl
      | ⟨3, _⟩ => rfl
      | ⟨4, _⟩ => rfl)).trans ?_
    refine (broadcastInDim_apply _ _ _ _ (ix4 h k d e : S2x4x64x64.Idx) (fun a => by
      match a with
      | ⟨0, _⟩ => rfl
      | ⟨1, _⟩ => rfl
      | ⟨2, _⟩ => rfl
      | ⟨3, _⟩ => rfl)).trans ?_
    refine (shapeCast_apply _ _ _ (ix3 ⟨4 * h.val + k.val, by omega⟩ d e : S8x64x64.Idx) ?_).trans ?_
    · rw [Shape.rowMajor_val_three, Shape.rowMajor_val_four]
      show ((4 * h.val + k.val) * 64 + d.val) * 64 + e.val = ((h.val * 4 + k.val) * 64 + d.val) * 64 + e.val
      omega
    · refine shapeCast_apply _ _ _ (ix4 0 ⟨4 * h.val + k.val, by omega⟩ d e : S1x8x64x64.Idx) ?_
      rw [Shape.rowMajor_val_three, Shape.rowMajor_val_four]
      show ((0 * 8 + (4 * h.val + k.val)) * 64 + d.val) * 64 + e.val = ((4 * h.val + k.val) * 64 + d.val) * 64 + e.val
      omega
  · refine (broadcastInDim_apply _ _ _ _ (ix5 0 k 0 l 0 : S1x4x1x4x1.Idx) (fun a => by
      match a with
      | ⟨0, _⟩ => rfl
      | ⟨1, _⟩ => rfl
      | ⟨2, _⟩ => rfl
      | ⟨3, _⟩ => rfl
      | ⟨4, _⟩ => rfl)).trans ?_
    exact broadcastInDim_apply _ _ _ _ (ix2 k l : S4x4.Idx) (fun a => by
      match a with
      | ⟨0, _⟩ => rfl
      | ⟨1, _⟩ => rfl)

theorem diag_apply (W : FVec Ideal S1x8x64x64 .f32) (h : Fin 2) (k : Fin 4) (d : Fin 64) (l : Fin 4) (e : Fin 64) :
    diag W (ix3 h ⟨64 * k.val + d.val, by omega⟩ ⟨64 * l.val + e.val, by omega⟩)
      = W (ix4 0 ⟨4 * h.val + k.val, by omega⟩ d e) * (if k = l then (1 : EReal) else 0) := by
  rw [← spread_apply]
  show shapeCast S2x256x256 (spread W) shapeCasts_S2x4x64x4x64_S2x256x256 _ = _
  refine shapeCast_apply _ _ _ (ix5 h k d l e : S2x4x64x4x64.Idx) ?_
  rw [Shape.rowMajor_val_three, Shape.rowMajor_val_five]
  show (((h.val * 4 + k.val) * 64 + d.val) * 4 + l.val) * 64 + e.val
    = (h.val * 256 + (64 * k.val + d.val)) * 256 + (64 * l.val + e.val)
  omega

theorem diag_on (W : FVec Ideal S1x8x64x64 .f32) (h : Fin 2) (k : Fin 4) (d e : Fin 64) :
    diag W (ix3 h ⟨64 * k.val + d.val, by omega⟩ ⟨64 * k.val + e.val, by omega⟩)
      = W (ix4 0 ⟨4 * h.val + k.val, by omega⟩ d e) := by
  rw [diag_apply, if_pos rfl, mul_one]

theorem diag_off (W : FVec Ideal S1x8x64x64 .f32) (h : Fin 2) (x y : Fin 256) (hxy : x.val / 64 ≠ y.val / 64) :
    diag W (ix3 h x y) = 0 := by
  have e := diag_apply W h ⟨x.val / 64, by omega⟩ ⟨x.val % 64, Nat.mod_lt _ (by decide)⟩
    ⟨y.val / 64, by omega⟩ ⟨y.val % 64, Nat.mod_lt _ (by decide)⟩
  rw [if_neg (fun hk => hxy (congrArg Fin.val hk)), mul_zero] at e
  rw [← e]
  refine congrArg₂ (fun x y => diag W (ix3 h x y)) (Fin.ext ?_) (Fin.ext ?_)
  · show x.val = 64 * (x.val / 64) + x.val % 64; omega
  · show y.val = 64 * (y.val / 64) + y.val % 64; omega

/-! ## The points and their blocks -/

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = t.val / 8 ∧ win0_9.index t (1 : Fin 3) = t.val % 8 ∧ win0_9.index t (2 : Fin 3) = 0 :=
  (by decide +kernel : ∀ t : Fin grid0.N, _)
theorem flush9 : ∀ t : Fin cfg0.N, (cfg0.win 9).flush t = true := (by decide +kernel : ∀ t : Fin grid0.N, _)

/-- The sequence a point works on. -/
abbrev seqOf (t : Fin cfg0.N) : Fin 8 := ⟨t.val / 8, by have : t.val < 64 := t.isLt; omega⟩

theorem b0 (t : Fin cfg0.N) (r : Fin 256) (k : Fin 1024) :
    (iblk m c 0 t : FVec Ideal S1x256x1024 .f32) (ix3 0 r k)
      = (args m c).x (ix3 (seqOf t) ⟨(256 * (t.val % 8) + r.val) % 2048, Nat.mod_lt _ (by decide)⟩ k) := by
  unfold iblk
  rw [View.read_apply]
  show (V m c main_arg0 : FVec Ideal S8x2048x1024 .f32) _ = _
  rw [V_main_arg0]
  obtain ⟨e0, e1, e2⟩ := idx0 t
  have he : (((cfg0.win 0).blk t).view.emb (ix3 0 r k) : S8x2048x1024.Idx)
      = ix3 (seqOf t) ⟨(256 * (t.val % 8) + r.val) % 2048, Nat.mod_lt _ (by decide)⟩ k := by
    funext a; apply Fin.ext
    match a with
    | ⟨0, _⟩ => show win0_0.index t 0 * 1 + 1 * 0 = t.val / 8; rw [e0]; omega
    | ⟨1, _⟩ => show win0_0.index t 1 * 256 + 1 * r.val = (256 * (t.val % 8) + r.val) % 2048; rw [e1]; omega
    | ⟨2, _⟩ => show win0_0.index t 2 * 1024 + 1 * k.val = k.val; rw [e2]; omega
  erw [he]
  rfl

theorem b1 (t : Fin cfg0.N) (d e : Fin 1024) :
    (iblk m c 1 t : FVec Ideal S1024x1024 .bf16) (ix2 d e) = (args m c).w (ix3 0 d ⟨1536 + e.val, by omega⟩) := by
  unfold iblk
  rw [View.read_apply]
  show (V m c main_v2 : FVec Ideal S1024x1024 .bf16) _ = _
  rw [V2]
  obtain ⟨e0, e1⟩ := idx1 t
  have he : (((cfg0.win 1).blk t).view.emb (ix2 d e) : S1024x1024.Idx) = ix2 d e := by
    funext a; apply Fin.ext
    match a with
    | ⟨0, _⟩ => show win0_1.index t 0 * 1024 + 1 * d.val = d.val; rw [e0]; omega
    | ⟨1, _⟩ => show win0_1.index t 1 * 1024 + 1 * e.val = e.val; rw [e1]; omega
  erw [he]
  exact weights _ d e

theorem b2 (t : Fin cfg0.N) (k : Fin 4) (j : Fin 512) :
    (iblk m c 2 t : FVec Ideal S4x512 .f32) (ix2 k j) = (args m c).cw (ix3 0 k j) := by
  unfold iblk
  rw [View.read_apply]
  show (V m c main_v3 : FVec Ideal S4x512 .f32) _ = _
  rw [V3]
  obtain ⟨e0, e1⟩ := idx2 t
  have he : (((cfg0.win 2).blk t).view.emb (ix2 k j) : S4x512.Idx) = ix2 k j := by
    funext a; apply Fin.ext
    match a with
    | ⟨0, _⟩ => show win0_2.index t 0 * 4 + 1 * k.val = k.val; rw [e0]; omega
    | ⟨1, _⟩ => show win0_2.index t 1 * 512 + 1 * j.val = j.val; rw [e1]; omega
  erw [he]
  exact taps _ k j

theorem b3 (t : Fin cfg0.N) (j : Fin 512) :
    (iblk m c 3 t : FVec Ideal S1x512 .f32) (ix2 0 j) = (args m c).cb (ix2 0 j) := by
  unfold iblk
  rw [View.read_apply]
  show (V m c main_v5 : FVec Ideal S1x512 .f32) _ = _
  rw [V5]
  obtain ⟨e0, e1⟩ := idx3 t
  have he : (((cfg0.win 3).blk t).view.emb (ix2 0 j) : S1x512.Idx) = ix2 0 j := by
    funext a; apply Fin.ext
    match a with
    | ⟨0, _⟩ => show win0_3.index t 0 * 1 + 1 * 0 = 0; rw [e0]
    | ⟨1, _⟩ => show win0_3.index t 1 * 512 + 1 * j.val = j.val; rw [e1]; omega
  erw [he]
  exact twice_apply _ 0 j

theorem b5 (t : Fin cfg0.N) (j : Fin 512) :
    (iblk m c 5 t : FVec Ideal S1x512 .f32) (ix2 0 j) = (args m c).br (ix2 0 j) := by
  unfold iblk
  rw [View.read_apply]
  show (V m c main_v22 : FVec Ideal S1x512 .f32) _ = _
  rw [V22]
  obtain ⟨e0, e1⟩ := idx5 t
  have he : (((cfg0.win 5).blk t).view.emb (ix2 0 j) : S1x512.Idx) = ix2 0 j := by
    funext a; apply Fin.ext
    match a with
    | ⟨0, _⟩ => show win0_5.index t 0 * 1 + 1 * 0 = 0; rw [e0]
    | ⟨1, _⟩ => show win0_5.index t 1 * 512 + 1 * j.val = j.val; rw [e1]; omega
  erw [he]
  exact twice_apply _ 0 j

theorem b7 (t : Fin cfg0.N) (j : Fin 512) :
    (iblk m c 7 t : FVec Ideal S1x512 .f32) (ix2 0 j) = (args m c).bi (ix2 0 j) := by
  unfold iblk
  rw [View.read_apply]
  show (V m c main_v39 : FVec Ideal S1x512 .f32) _ = _
  rw [V39]
  obtain ⟨e0, e1⟩ := idx7 t
  have he : (((cfg0.win 7).blk t).view.emb (ix2 0 j) : S1x512.Idx) = ix2 0 j := by
    funext a; apply Fin.ext
    match a with
    | ⟨0, _⟩ => show win0_7.index t 0 * 1 + 1 * 0 = 0; rw [e0]
    | ⟨1, _⟩ => show win0_7.index t 1 * 512 + 1 * j.val = j.val; rw [e1]; omega
  erw [he]
  exact twice_apply _ 0 j

theorem b8 (t : Fin cfg0.N) (j : Fin 512) :
    (iblk m c 8 t : FVec Ideal S1x512 .f32) (ix2 0 j) = (args m c).lam (ix2 0 j) := by
  unfold iblk
  rw [View.read_apply]
  show (V m c main_v41 : FVec Ideal S1x512 .f32) _ = _
  rw [V41]
  obtain ⟨e0, e1⟩ := idx8 t
  have he : (((cfg0.win 8).blk t).view.emb (ix2 0 j) : S1x512.Idx) = ix2 0 j := by
    funext a; apply Fin.ext
    match a with
    | ⟨0, _⟩ => show win0_8.index t 0 * 1 + 1 * 0 = 0; rw [e0]
    | ⟨1, _⟩ => show win0_8.index t 1 * 512 + 1 * j.val = j.val; rw [e1]; omega
  erw [he]
  exact twice_apply _ 0 j

theorem b4 (t : Fin cfg0.N) (h : Fin 2) (x y : Fin 256) :
    (iblk m c 4 t : FVec Ideal S2x256x256 .bf16) (ix3 h x y) = diag (args m c).wr (ix3 h x y) := by
  unfold iblk
  rw [View.read_apply]
  show (V m c main_v20 : FVec Ideal S2x256x256 .bf16) _ = _
  rw [V20]
  obtain ⟨e0, e1, e2⟩ := idx4 t
  have he : (((cfg0.win 4).blk t).view.emb (ix3 h x y) : S2x256x256.Idx) = ix3 h x y := by
    funext a; apply Fin.ext
    match a with
    | ⟨0, _⟩ => show win0_4.index t 0 * 2 + 1 * h.val = h.val; rw [e0]; omega
    | ⟨1, _⟩ => show win0_4.index t 1 * 256 + 1 * x.val = x.val; rw [e1]; omega
    | ⟨2, _⟩ => show win0_4.index t 2 * 256 + 1 * y.val = y.val; rw [e2]; omega
  erw [he]

theorem b6 (t : Fin cfg0.N) (h : Fin 2) (x y : Fin 256) :
    (iblk m c 6 t : FVec Ideal S2x256x256 .bf16) (ix3 h x y) = diag (args m c).wi (ix3 h x y) := by
  unfold iblk
  rw [View.read_apply]
  show (V m c main_v37 : FVec Ideal S2x256x256 .bf16) _ = _
  rw [V37]
  obtain ⟨e0, e1, e2⟩ := idx6 t
  have he : (((cfg0.win 6).blk t).view.emb (ix3 h x y) : S2x256x256.Idx) = ix3 h x y := by
    funext a; apply Fin.ext
    match a with
    | ⟨0, _⟩ => show win0_6.index t 0 * 2 + 1 * h.val = h.val; rw [e0]; omega
    | ⟨1, _⟩ => show win0_6.index t 1 * 256 + 1 * x.val = x.val; rw [e1]; omega
    | ⟨2, _⟩ => show win0_6.index t 2 * 256 + 1 * y.val = y.val; rw [e2]; omega
  erw [he]

theorem b9 (t : Fin cfg0.N) (r : Fin 256) (j : Fin 512) (u : Fin 1) :
    (((cfg0.win 9).blk t).view.emb (ix3 u r j) : S8x2048x512.Idx) = ix3 (seqOf t) ⟨256 * (t.val % 8) + r.val, by omega⟩ j := by
  obtain ⟨e0, e1, e2⟩ := idx9 t
  funext a; apply Fin.ext
  match a with
  | ⟨0, _⟩ => show win0_9.index t 0 * 1 + 1 * u.val = t.val / 8; rw [e0]; omega
  | ⟨1, _⟩ => show win0_9.index t 1 * 256 + 1 * r.val = 256 * (t.val % 8) + r.val; rw [e1]; omega
  | ⟨2, _⟩ => show win0_9.index t 2 * 512 + 1 * j.val = j.val; rw [e2]; omega

/-- The blocks a point reads, from what each of them holds. -/
theorem reads_of {A : Args} {b : Fin 8} {t : ℕ} (B0 : FVec Ideal S1x256x1024 .f32) (B1 : FVec Ideal S1024x1024 .bf16)
    (B2 : FVec Ideal S4x512 .f32) (B3 : FVec Ideal S1x512 .f32) (B4 : FVec Ideal S2x256x256 .bf16) (B5 : FVec Ideal S1x512 .f32)
    (B6 : FVec Ideal S2x256x256 .bf16) (B7 B8 : FVec Ideal S1x512 .f32)
    (h0 : ∀ (r : Fin 256) (d : Fin 1024), B0 (ix3 0 r d) = A.x (ix3 b ⟨(256 * t + r.val) % 2048, Nat.mod_lt _ (by decide)⟩ d))
    (h1 : ∀ (d e : Fin 1024), B1 (ix2 d e) = A.w (ix3 0 d ⟨1536 + e.val, by omega⟩))
    (h2 : ∀ (k : Fin 4) (j : Fin 512), B2 (ix2 k j) = A.cw (ix3 0 k j))
    (h3 : ∀ j : Fin 512, B3 (ix2 0 j) = A.cb (ix2 0 j))
    (h4 : ∀ (h : Fin 2) (x y : Fin 256), B4 (ix3 h x y) = diag A.wr (ix3 h x y))
    (h5 : ∀ j : Fin 512, B5 (ix2 0 j) = A.br (ix2 0 j))
    (h6 : ∀ (h : Fin 2) (x y : Fin 256), B6 (ix3 h x y) = diag A.wi (ix3 h x y))
    (h7 : ∀ j : Fin 512, B7 (ix2 0 j) = A.bi (ix2 0 j))
    (h8 : ∀ j : Fin 512, B8 (ix2 0 j) = A.lam (ix2 0 j)) :
    Reads A b t ⟨B0, B1, B2, B3, B4, B5, B6, B7, B8⟩ where
  x := h0
  w := h1
  cw := h2
  cb := h3
  br := h5
  bi := h7
  lam := h8
  wr := fun h k d e => (h4 h _ _).trans (diag_on _ h k d e)
  wr0 := fun h x y hxy => (h4 h x y).trans (diag_off _ h x y hxy)
  wi := fun h k d e => (h6 h _ _).trans (diag_on _ h k d e)
  wi0 := fun h x y hxy => (h6 h x y).trans (diag_off _ h x y hxy)

theorem reads (t : Fin cfg0.N) : Reads (args m c) (seqOf t) (t.val % 8) (inp m c t) :=
  reads_of _ _ _ _ _ _ _ _ _ (b0 m c t) (b1 m c t) (b2 m c t) (b3 m c t) (b4 m c t) (b5 m c t) (b6 m c t) (b7 m c t) (b8 m c t)

/-- What a point works from. -/
theorem at_point (n : ℕ) (hn : n < 64) :
    Kept (args m c) ⟨n / 8, by omega⟩ (n % 8) (st m c n).1
      ∧ Carried (args m c) ⟨n / 8, by omega⟩ (256 * (n % 8)) (st m c n).2 := by
  induction n with
  | zero => exact ⟨kept_zero, carried_zero⟩
  | succ n ih =>
    by_cases h : (n + 1) % 8 = 0
    · rw [st_fresh m c (n + 1) h, h]
      exact ⟨kept_zero, carried_zero⟩
    · rw [st_next m c n h]
      obtain ⟨hk, hc⟩ := ih (by omega)
      have R := reads m c (pt n)
      have ev : (pt n).val = n := Nat.mod_eq_of_lt (by omega)
      have es : seqOf (pt n) = (⟨(n + 1) / 8, by omega⟩ : Fin 8) :=
        Fin.ext (show (pt n).val / 8 = (n + 1) / 8 by rw [ev]; omega)
      have eb : (⟨n / 8, by omega⟩ : Fin 8) = ⟨(n + 1) / 8, by omega⟩ := Fin.ext (show n / 8 = (n + 1) / 8 by omega)
      have em : (n + 1) % 8 = n % 8 + 1 := by omega
      rw [ev, es] at R
      rw [eb] at hk hc
      rw [em]
      exact ⟨pnew_at R, hnew_at R hk hc⟩

theorem out_at (t : Fin cfg0.N) (r : Fin 256) (j : Fin 512) :
    (out m c t : FVec Ideal S1x256x512 .bf16) (ix3 0 r j)
      = Cert.LruMath.out (args m c) (seqOf t) (256 * (t.val % 8) + r.val) j := by
  obtain ⟨hk, hc⟩ := at_point m c t.val t.isLt
  unfold out
  exact outv_at (reads m c t) hk hc r j

theorem G_ix (n : Fin 8) (s : Fin 2048) (j : Fin 512) : G m c (ix3 n s j) = Cert.LruMath.out (args m c) n s.val j := by
  unfold G
  rfl

theorem G_at (t : Fin cfg0.N) (r : Fin 256) (j : Fin 512) :
    G m c (((cfg0.win 9).blk t).view.emb (ix3 0 r j)) = Cert.LruMath.out (args m c) (seqOf t) (256 * (t.val % 8) + r.val) j :=
  (congrArg (G m c) (b9 t r j 0)).trans (G_ix m c _ _ _)

theorem row_eq (y : S1x256x512.Idx) : y = ix3 0 (y 1) (y 2) := by
  have y0 : (y 0).val < 1 := (y 0).isLt
  funext a
  match a with
  | ⟨0, _⟩ => exact Fin.ext (by show (y 0).val = 0; omega)
  | ⟨1, _⟩ => rfl
  | ⟨2, _⟩ => rfl

theorem block9 (t : Fin cfg0.N) (y : S1x256x512.Idx) :
    (out m c t : FVec Ideal S1x256x512 .bf16) y = G m c (((cfg0.win 9).blk t).view.emb y) := by
  rw [row_eq y]
  exact (out_at m c t (y 1) (y 2)).trans (G_at m c t (y 1) (y 2)).symm

theorem flushed9 (t : Fin cfg0.N) : (dats m 0 c).flushed 9 t = (cfg0.win 9).cut (grid0.coords t) (out m c t) := by
  show (cfg0.win 9).cut (grid0.coords t) ((dats m 0 c).after 9 t) = _
  rw [after_9]

theorem final9 : (dats m 0 c).arrAt 9 cfg0.N = G m c := by
  refine (dats m 0 c).arrAt_eq_of_cover 9 _ (fun t _ => ?_) (fun i => ?_)
  · rw [flushed9]
    funext y
    exact block9 m c t y
  · have h0 : (i 0).val < 8 := (i 0).isLt
    have h1 : (i 1).val < 2048 := (i 1).isLt
    have ht : 8 * (i 0).val + (i 1).val / 256 < cfg0.N := by show _ < 64; omega
    refine ⟨⟨_, ht⟩, flush9 _, Finset.mem_map.mpr ⟨(ix3 0 ⟨(i 1).val % 256, Nat.mod_lt _ (by decide)⟩ (i 2) : S1x256x512.Idx), Finset.mem_univ _, ?_⟩⟩
    refine (b9 _ _ _ _).trans (funext fun a => Fin.ext ?_)
    match a with
    | ⟨0, _⟩ => show (8 * (i 0).val + (i 1).val / 256) / 8 = (i 0).val; omega
    | ⟨1, _⟩ => show 256 * ((8 * (i 0).val + (i 1).val / 256) % 8) + (i 1).val % 256 = (i 1).val; omega
    | ⟨2, _⟩ => rfl

end Cert.LruIdeal.Body

end
-- ==== Proof.Lru.RefEntry.lean ====
/-
  What the recurrent branch's reference has computed when its loop begins.
-/
module

public import proofs.«01_k».proof.Proof.Gen.LruRefIdeal.Step
public import proofs.«01_k».proof.Proof.Gen.LruRefIdeal.Run
public import proofs.«01_k».proof.Proof.Lru.Math

@[expose] public section

set_option maxRecDepth 16384

noncomputable section

namespace Cert.LruRefIdeal.Entry

open Cert.LruRefIdeal Cert.LruRefIdeal.Gen Idealize.ShloMosaic Idealize.ShloMosaic.TcCoe
open Cert.LruRefIdeal.Step Cert.LruMath
open Idealize.ShloMosaic.StableHlo Idealize.ShloMosaic.Tactic

/-- The arguments are `A`'s. -/
structure Holds (A : Args) (V : Valuation τ sig (Elt Ideal)) : Prop where
  x : V (Proc.devRef .tc main_arg0) = A.x
  w : V (Proc.devRef .tc main_arg1) = A.w
  cw : V (Proc.devRef .tc main_arg2) = A.cw
  cb : V (Proc.devRef .tc main_arg3) = A.cb
  wr : V (Proc.devRef .tc main_arg4) = A.wr
  br : V (Proc.devRef .tc main_arg5) = A.br
  wi : V (Proc.devRef .tc main_arg6) = A.wi
  bi : V (Proc.devRef .tc main_arg7) = A.bi
  lam : V (Proc.devRef .tc main_arg8) = A.lam

variable {A : Args} {V : Valuation τ sig (Elt Ideal)}

theorem s0_v2 (h : Holds A V) : after hostOps0 V (Proc.devRef .tc main_v2) = A_main_v2 (F := Ideal) A.x A.w A.cw A.cb A.wr A.br A.wi A.bi A.lam := by
  unfold A_main_v2 A_main_v1 A_main_v0
  rw [← h.x, ← h.w]
  after_results_simp <;> rfl
theorem s0_v3 (h : Holds A V) : after hostOps0 V (Proc.devRef .tc main_v3) = A_main_v3 (F := Ideal) A.x A.w A.cw A.cb A.wr A.br A.wi A.bi A.lam := by
  unfold A_main_v3
  rw [← h.cw]
  after_results_simp <;> rfl
theorem s0_v4 (h : Holds A V) : after hostOps0 V (Proc.devRef .tc main_v4) = A_main_v4 (F := Ideal) A.x A.w A.cw A.cb A.wr A.br A.wi A.bi A.lam := by
  unfold A_main_v4
  rw [← h.cb]
  after_results_simp <;> rfl
theorem s0_c : after hostOps0 V (Proc.devRef .tc main_c) = K_main_c (F := Ideal) := by
  unfold K_main_c
  after_results_simp <;> rfl

theorem s1_v5 (h2 : V (Proc.devRef .tc main_v2) = A_main_v2 (F := Ideal) A.x A.w A.cw A.cb A.wr A.br A.wi A.bi A.lam)
    (hc : V (Proc.devRef .tc main_c) = K_main_c (F := Ideal)) :
    after hostOps0_1 V (Proc.devRef .tc main_v5) = A_main_v5 (F := Ideal) A.x A.w A.cw A.cb A.wr A.br A.wi A.bi A.lam := by
  unfold A_main_v5 K_main_call0_v0
  rw [← h2, ← hc]
  after_results_simp <;> rfl

theorem s2_v35 (h5 : V (Proc.devRef .tc main_v5) = A_main_v5 (F := Ideal) A.x A.w A.cw A.cb A.wr A.br A.wi A.bi A.lam)
    (h3 : V (Proc.devRef .tc main_v3) = A_main_v3 (F := Ideal) A.x A.w A.cw A.cb A.wr A.br A.wi A.bi A.lam)
    (h4 : V (Proc.devRef .tc main_v4) = A_main_v4 (F := Ideal) A.x A.w A.cw A.cb A.wr A.br A.wi A.bi A.lam) :
    after hostOps0_2 V (Proc.devRef .tc main_v35) = A_main_v35 (F := Ideal) A.x A.w A.cw A.cb A.wr A.br A.wi A.bi A.lam := by
  after_results_simp
  rw [h5, h3, h4]
  rfl

theorem s2_v66 (h : Holds A V) (h5 : V (Proc.devRef .tc main_v5) = A_main_v5 (F := Ideal) A.x A.w A.cw A.cb A.wr A.br A.wi A.bi A.lam)
    (h3 : V (Proc.devRef .tc main_v3) = A_main_v3 (F := Ideal) A.x A.w A.cw A.cb A.wr A.br A.wi A.bi A.lam)
    (h4 : V (Proc.devRef .tc main_v4) = A_main_v4 (F := Ideal) A.x A.w A.cw A.cb A.wr A.br A.wi A.bi A.lam) :
    after hostOps0_2 V (Proc.devRef .tc main_v66) = A_main_v66 (F := Ideal) A.x A.w A.cw A.cb A.wr A.br A.wi A.bi A.lam := by
  after_results_simp
  rw [h5, h3, h4, h.wi, h.bi]
  rfl

theorem s2_v68 (h : Holds A V) (h5 : V (Proc.devRef .tc main_v5) = A_main_v5 (F := Ideal) A.x A.w A.cw A.cb A.wr A.br A.wi A.bi A.lam)
    (h3 : V (Proc.devRef .tc main_v3) = A_main_v3 (F := Ideal) A.x A.w A.cw A.cb A.wr A.br A.wi A.bi A.lam)
    (h4 : V (Proc.devRef .tc main_v4) = A_main_v4 (F := Ideal) A.x A.w A.cw A.cb A.wr A.br A.wi A.bi A.lam) :
    after hostOps0_2 V (Proc.devRef .tc main_v68) = A_main_v68 (F := Ideal) A.x A.w A.cw A.cb A.wr A.br A.wi A.bi A.lam := by
  after_results_simp
  rw [h5, h3, h4, h.wr, h.br]
  rfl

theorem s2_v69 (h : Holds A V) : after hostOps0_2 V (Proc.devRef .tc main_v69) = A_main_v69 (F := Ideal) A.x A.w A.cw A.cb A.wr A.br A.wi A.bi A.lam := by
  after_results_simp
  rw [h.lam]
  rfl

theorem s3_v70 (h : V (Proc.devRef .tc main_v69) = A_main_v69 (F := Ideal) A.x A.w A.cw A.cb A.wr A.br A.wi A.bi A.lam) :
    after hostOps0_3 V (Proc.devRef .tc main_v70) = A_main_v70 (F := Ideal) A.x A.w A.cw A.cb A.wr A.br A.wi A.bi A.lam := by
  after_results_simp
  rw [h]
  rfl
theorem s3_v35 : after hostOps0_3 V (Proc.devRef .tc main_v35) = V (Proc.devRef .tc main_v35) := by
  after_results_simp
theorem s3_v66 : after hostOps0_3 V (Proc.devRef .tc main_v66) = V (Proc.devRef .tc main_v66) := by
  after_results_simp
theorem s3_v68 : after hostOps0_3 V (Proc.devRef .tc main_v68) = V (Proc.devRef .tc main_v68) := by
  after_results_simp
theorem s1_v3 : after hostOps0_1 V (Proc.devRef .tc main_v3) = V (Proc.devRef .tc main_v3) := by
  after_results_simp
theorem s1_v4 : after hostOps0_1 V (Proc.devRef .tc main_v4) = V (Proc.devRef .tc main_v4) := by
  after_results_simp

theorem s4_v86_0 (h68 : V (Proc.devRef .tc main_v68) = A_main_v68 (F := Ideal) A.x A.w A.cw A.cb A.wr A.br A.wi A.bi A.lam)
    (h70 : V (Proc.devRef .tc main_v70) = A_main_v70 (F := Ideal) A.x A.w A.cw A.cb A.wr A.br A.wi A.bi A.lam) :
    after hostOps0_4 V (Proc.devRef .tc main_v86_0) = A_main_v83 (F := Ideal) A.x A.w A.cw A.cb A.wr A.br A.wi A.bi A.lam := by
  after_results_simp
  rw [h68, h70]
  rfl
theorem s4_v86_1 (h68 : V (Proc.devRef .tc main_v68) = A_main_v68 (F := Ideal) A.x A.w A.cw A.cb A.wr A.br A.wi A.bi A.lam)
    (h70 : V (Proc.devRef .tc main_v70) = A_main_v70 (F := Ideal) A.x A.w A.cw A.cb A.wr A.br A.wi A.bi A.lam)
    (h66 : V (Proc.devRef .tc main_v66) = A_main_v66 (F := Ideal) A.x A.w A.cw A.cb A.wr A.br A.wi A.bi A.lam)
    (h35 : V (Proc.devRef .tc main_v35) = A_main_v35 (F := Ideal) A.x A.w A.cw A.cb A.wr A.br A.wi A.bi A.lam) :
    after hostOps0_4 V (Proc.devRef .tc main_v86_1) = A_main_v84 (F := Ideal) A.x A.w A.cw A.cb A.wr A.br A.wi A.bi A.lam := by
  after_results_simp
  rw [h68, h70, h66, h35]
  rfl
theorem s4_v86_2 : after hostOps0_4 V (Proc.devRef .tc main_v86_2) = (fun _ => (0#32 : BitVec 32)) := by
  after_results_simp <;> rfl
theorem s4_v86_3 : after hostOps0_4 V (Proc.devRef .tc main_v86_3) = K_main_v82 (F := Ideal) := by
  after_results_simp <;> rfl

end Cert.LruRefIdeal.Entry

end
-- ==== Proof.Lru.RefConv.lean ====
/-
  The convolution of the recurrent branch's reference, read at an index.
-/
module

public import proofs.«01_k».proof.Proof.Gen.LruRefIdeal.Step
public import Idealize.ShloMosaic.Lib.KernelVsHost
public import proofs.«01_k».proof.Proof.Lru.Math

@[expose] public section

set_option maxRecDepth 16384

noncomputable section

namespace Cert.LruRefIdeal.Ref

open Cert.LruRefIdeal Cert.LruRefIdeal.Gen Idealize.ShloMosaic
open Cert.LruRefIdeal.Step Cert.LruMath

variable (A : Args)

/-- The projection's recurrent half, three zeros before it. -/
def rPad : FVec Ideal S8x2051x512 .f32 := A_main_v5 (F := Ideal) A.x A.w A.cw A.cb A.wr A.br A.wi A.bi A.lam
def rProj : FVec Ideal S8x2048x512 .f32 := A_main_v2 (F := Ideal) A.x A.w A.cw A.cb A.wr A.br A.wi A.bi A.lam
/-- The convolution. -/
def rConv : FVec Ideal S8x2048x512 .f32 := A_main_v35 (F := Ideal) A.x A.w A.cw A.cb A.wr A.br A.wi A.bi A.lam

theorem proj_at (n : Fin 8) (s : Fin 2048) (j : Fin 512) :
    rProj A (ix3 n s j) = proj A n s.val ⟨1536 + j.val, by omega⟩ := by
  unfold rProj A_main_v2 A_main_v1 A_main_v0
  pointwise
  unfold proj
  refine Finset.sum_congr rfl fun d _ => ?_
  rw [show (⟨s.val % 2048, Nat.mod_lt _ (by decide)⟩ : Fin 2048) = s from Fin.ext (Nat.mod_eq_of_lt s.isLt)]

theorem pad_at (n : Fin 8) (i : Fin 2051) (j : Fin 512) : rPad A (ix3 n i j) = before A n j (i.val + 5) := by
  unfold rPad A_main_v5 before
  by_cases hi : i.val < 3
  · rw [if_pos (by omega)]
    refine (pad_apply_of_not_inside _ _ _ _ _ _ _ _ 1 ?_).trans ?_
    · intro h
      have h1 : 3 ≤ i.val := h.1
      omega
    · unfold K_main_call0_v0 K_main_c
      pointwise
      show (((0#32 : BitVec 32).toInt : ℝ) : EReal) = 0
      simp
  · rw [if_neg (by omega)]
    have hs : i.val - 3 < 2048 := by omega
    refine (pad_apply_of_inside _ _ _ _ _ _ _ _ (ix3 n ⟨i.val - 3, hs⟩ j) (fun a => ?_)).trans ?_
    · match a with
      | ⟨0, _⟩ => show n.val = 0 + n.val * 1; omega
      | ⟨1, _⟩ => show i.val = 3 + (i.val - 3) * 1; omega
      | ⟨2, _⟩ => show j.val = 0 + j.val * 1; omega
    · refine (proj_at A n ⟨i.val - 3, hs⟩ j).trans ?_
      rw [show i.val + 5 - 8 = i.val - 3 by omega]

theorem other_order (b p0 w0 p1 w1 p2 w2 p3 w3 : EReal) :
    b + p0 * w0 + p1 * w1 + p2 * w2 + p3 * w3 = b + w3 * p3 + w2 * p2 + w1 * p1 + w0 * p0 := by
  rw [mul_comm p0, mul_comm p1, mul_comm p2, mul_comm p3]
  ac_rfl

theorem conv_at (n : Fin 8) (s : Fin 2048) (j : Fin 512) : rConv A (ix3 n s j) = conv A n j s.val := by
  unfold rConv A_main_v35 A_main_v28 A_main_v34 A_main_v21 A_main_v27 A_main_v14 A_main_v20 A_main_v11 A_main_v13
    A_main_v33 A_main_v26 A_main_v19 A_main_v12 A_main_v10 A_main_v32 A_main_v25 A_main_v18 A_main_v9 A_main_v31 A_main_v24 A_main_v17 A_main_v8
    A_main_v30 A_main_v23 A_main_v16 A_main_v7 A_main_v29 A_main_v22 A_main_v15 A_main_v6 A_main_v3 A_main_v4
  generalize hP : A_main_v5 (F := Ideal) A.x A.w A.cw A.cb A.wr A.br A.wi A.bi A.lam = P
  have h : ∀ i : Fin 2051, P (ix3 n i j) = before A n j (i.val + 5) := fun i => by rw [← hP]; exact pad_at A n i j
  pointwise
  rw [h, h, h, h]
  unfold conv
  rw [show (1 + s.val) + 5 = s.val + 6 by omega, show (2 + s.val) + 5 = s.val + 7 by omega,
    show (3 + s.val) + 5 = s.val + 8 by omega]
  exact other_order _ _ _ _ _ _ _ _ _

end Cert.LruRefIdeal.Ref

end
-- ==== Proof.Lru.RefGate.lean ====
/-
  The gates and the recurrence's coefficients of the recurrent branch's reference, read at an index.
-/
module

public import proofs.«01_k».proof.Proof.Lru.RefConv

@[expose] public section

set_option maxRecDepth 16384

noncomputable section

namespace Cert.LruRefIdeal.Ref

open Cert.LruRefIdeal Cert.LruRefIdeal.Gen Idealize.ShloMosaic
open Cert.LruRefIdeal.Step Cert.LruMath

variable (A : Args)

theorem gate_r (n : Fin 8) (s : Fin 2048) (j : Fin 512) :
    (A_main_v53 (F := Ideal) A.x A.w A.cw A.cb A.wr A.br A.wi A.bi A.lam : FVec Ideal S8x2048x512 .f32) (ix3 n s j) = gate A A.wr A.br n j s.val := by
  unfold A_main_v53 A_main_v51 A_main_v49 A_main_v48 A_main_v47 A_main_v46 A_main_v45 A_main_v44 A_main_v43 A_main_v42 A_main_v41
    A_main_v37 A_main_v36 K_main_v50 K_main_v52 K_main_cst K_main_cst_0
  generalize hP : A_main_v35 (F := Ideal) A.x A.w A.cw A.cb A.wr A.br A.wi A.bi A.lam = P
  have h : ∀ i : Fin 512, P (ix3 n s i) = conv A n i s.val := fun i => by rw [← hP]; exact conv_at A n s i
  pointwise
  refine congrArg (fun e : EReal => Ideal.div 1 (1 + Ideal.exp (-(e + A.br (ix2 0 j))))) (Finset.sum_congr rfl fun d _ => ?_)
  rw [h, mul_comm]
  exact congrArg (fun e : Fin 512 => conv A n e s.val * A.wr (ix4 0 ⟨j.val / 64, by omega⟩ d ⟨j.val % 64, Nat.mod_lt _ (by decide)⟩))
    (Fin.ext (show j.val / 64 * 64 + d.val = 64 * (j.val / 64) + d.val by omega))

theorem soft_neg (x : EReal) : max (-x) 0 + Ideal.log1p (Ideal.exp (-max (-x) (- -x))) = soft x := by
  unfold soft
  rw [zero_sub, zero_sub, neg_neg, max_comm (-x) x]
  rfl

theorem soft_at (j : Fin 512) :
    (A_main_v70 (F := Ideal) A.x A.w A.cw A.cb A.wr A.br A.wi A.bi A.lam : FVec Ideal S512 .f32) (ix1 j) = soft (A.lam (ix2 0 j)) := by
  unfold A_main_v70 A_main_call1_v11 A_main_call1_v10 A_main_call1_v9 A_main_call1_v8 A_main_call1_v7 A_main_call1_v6 A_main_call1_v4
    A_main_call1_v3 A_main_call1_v1 A_main_v69 A_main_v40 K_main_call1_v0 K_main_call1_v2 K_main_call1_v5 K_main_call1_cst
  pointwise
  rw [if_neg (not_not.mpr rfl)]
  exact soft_neg _

theorem logA_at (n : Fin 8) (s : Fin 2048) (j : Fin 512) :
    (A_main_v73 (F := Ideal) A.x A.w A.cw A.cb A.wr A.br A.wi A.bi A.lam : FVec Ideal S8x2048x512 .f32) (ix3 n s j) = logA A n j s.val := by
  unfold A_main_v73 A_main_v72 A_main_v71 A_main_v68 K_main_v67 K_main_cst_3
  generalize hP : A_main_v53 (F := Ideal) A.x A.w A.cw A.cb A.wr A.br A.wi A.bi A.lam = P
  have h : P (ix3 n s j) = gate A A.wr A.br n j s.val := by rw [← hP]; exact gate_r A n s j
  generalize hQ : A_main_v70 (F := Ideal) A.x A.w A.cw A.cb A.wr A.br A.wi A.bi A.lam = Q
  have h' : Q (ix1 j) = soft (A.lam (ix2 0 j)) := by rw [← hQ]; exact soft_at A j
  pointwise
  rw [h, h']
  rfl

theorem gate_i (n : Fin 8) (s : Fin 2048) (j : Fin 512) :
    (A_main_v66 (F := Ideal) A.x A.w A.cw A.cb A.wr A.br A.wi A.bi A.lam : FVec Ideal S8x2048x512 .f32) (ix3 n s j) = gate A A.wi A.bi n j s.val := by
  unfold A_main_v66 A_main_v64 A_main_v62 A_main_v61 A_main_v60 A_main_v59 A_main_v58 A_main_v57 A_main_v56 A_main_v55 A_main_v54
    A_main_v39 A_main_v38 K_main_v63 K_main_v65 K_main_cst_1 K_main_cst_2
  generalize hP : A_main_v35 (F := Ideal) A.x A.w A.cw A.cb A.wr A.br A.wi A.bi A.lam = P
  have h : ∀ i : Fin 512, P (ix3 n s i) = conv A n i s.val := fun i => by rw [← hP]; exact conv_at A n s i
  pointwise
  refine congrArg (fun e : EReal => Ideal.div 1 (1 + Ideal.exp (-(e + A.bi (ix2 0 j))))) (Finset.sum_congr rfl fun d _ => ?_)
  rw [h, mul_comm]
  exact congrArg (fun e : Fin 512 => conv A n e s.val * A.wi (ix4 0 ⟨j.val / 64, by omega⟩ d ⟨j.val % 64, Nat.mod_lt _ (by decide)⟩))
    (Fin.ext (show j.val / 64 * 64 + d.val = 64 * (j.val / 64) + d.val by omega))

theorem ca_at (s : Fin 2048) (n : Fin 8) (j : Fin 512) :
    (A_main_v83 (F := Ideal) A.x A.w A.cw A.cb A.wr A.br A.wi A.bi A.lam : FVec Ideal S2048x8x512 .f32) (ix3 s n j) = ca A n j s.val := by
  unfold A_main_v83 A_main_v74
  generalize hP : A_main_v73 (F := Ideal) A.x A.w A.cw A.cb A.wr A.br A.wi A.bi A.lam = P
  have h : P (ix3 n s j) = logA A n j s.val := by rw [← hP]; exact logA_at A n s j
  pointwise
  rw [h]
  rfl

theorem one_less (e : EReal) : -(e - 1) = 1 - e := by
  rw [EReal.neg_sub (Or.inr (by decide)) (Or.inr (by decide)), add_comm, sub_eq_add_neg]

theorem cu_at (s : Fin 2048) (n : Fin 8) (j : Fin 512) :
    (A_main_v84 (F := Ideal) A.x A.w A.cw A.cb A.wr A.br A.wi A.bi A.lam : FVec Ideal S2048x8x512 .f32) (ix3 s n j) = cu A n j s.val := by
  unfold A_main_v84 A_main_v81 A_main_v80 A_main_v79 A_main_v78 A_main_v77 A_main_v76 K_main_v75 K_main_cst_4
  generalize hP : A_main_v73 (F := Ideal) A.x A.w A.cw A.cb A.wr A.br A.wi A.bi A.lam = P
  have h : P (ix3 n s j) = logA A n j s.val := by rw [← hP]; exact logA_at A n s j
  generalize hQ : A_main_v66 (F := Ideal) A.x A.w A.cw A.cb A.wr A.br A.wi A.bi A.lam = Q
  have h' : Q (ix3 n s j) = gate A A.wi A.bi n j s.val := by rw [← hQ]; exact gate_i A n s j
  generalize hR : A_main_v35 (F := Ideal) A.x A.w A.cw A.cb A.wr A.br A.wi A.bi A.lam = R
  have h'' : R (ix3 n s j) = conv A n j s.val := by rw [← hR]; exact conv_at A n s j
  pointwise
  rw [h, h', h'']
  rw [one_less]
  rfl

end Cert.LruRefIdeal.Ref

end
-- ==== Proof.Lru.RefTrip.lean ====
/-
  One trip of the loop of the recurrent branch's reference, read at an index.
-/
module

public import proofs.«01_k».proof.Proof.Gen.LruRefIdeal.Run
public import proofs.«01_k».proof.Proof.Lru.Math
public import Idealize.ShloMosaic.Lib.WordCmp

@[expose] public section

set_option maxRecDepth 16384

noncomputable section

namespace Cert.LruRefIdeal.Loop

open Cert.LruRefIdeal Cert.LruRefIdeal.Gen Cert.LruRefIdeal.Value Idealize.ShloMosaic Idealize.ShloMosaic.TcCoe
open Cert.LruMath

abbrev W : Type := (⟨S_, .i32⟩ : BufTy).Contents (Elt Ideal)

/-- Where a trip reads and writes, from its counter. -/
def starts (w : W) : Fin 3 → Int :=
  fun k => (((![w, constantI S_ 32 0#32, constantI S_ 32 0#32] : Fin 3 → W)) k (Shape.Idx.first h_S_)).toInt

theorem word (k : ℕ) (hk : k < 2048) : (BitVec.ofNat 32 k).toInt = (k : Int) := by
  rw [BitVec.toInt_eq_toNat_of_lt (by rw [BitVec.toNat_ofNat]; omega), BitVec.toNat_ofNat]
  omega

theorem starts_eq {w : W} {k : ℕ} (hw : w = fun _ => BitVec.ofNat 32 k) (hk : k < 2048) (a : Fin 3) :
    starts w a = ((![k, 0, 0] : Fin 3 → ℕ) a : Int) := by
  subst hw
  match a with
  | ⟨0, _⟩ => exact word k hk
  | ⟨1, _⟩ => rfl
  | ⟨2, _⟩ => rfl

theorem fits (k : ℕ) (hk : k < 2048) : S2048x8x512.Slices ![k, 0, 0] S1x8x512 :=
  ⟨rfl, fun a => match a with
    | ⟨0, _⟩ => (show k + 1 ≤ 2048 by omega)
    | ⟨1, _⟩ => (show 0 + 8 ≤ 8 by omega)
    | ⟨2, _⟩ => (show 0 + 512 ≤ 512 by omega)⟩

/-- Row `k` of `v`. -/
theorem slice_at (v : FVec Ideal S2048x8x512 .f32) {w : W} {k : ℕ} (hw : w = fun _ => BitVec.ofNat 32 k) (hk : k < 2048)
    (n : Fin 8) (j : Fin 512) :
    (shapeCast S8x512 (Host.dynamicSlice S1x8x512 v (starts w) sliceFits_S2048x8x512_S1x8x512) shapeCasts_S1x8x512_S8x512
      : FVec Ideal S8x512 .f32) (ix2 n j) = v (ix3 ⟨k, hk⟩ n j) := by
  rw [WordCmp.dynamicSlice_eq_extract _ _ _ _ ![k, 0, 0] (fits k hk) (starts_eq hw hk)]
  pointwise

/-- `v` with row `k` replaced by `h`, at row `k`. -/
theorem update_here (v : FVec Ideal S2048x8x512 .f32) (h : FVec Ideal S8x512 .f32) {w : W} {k : ℕ}
    (hw : w = fun _ => BitVec.ofNat 32 k) (hk : k < 2048) (n : Fin 8) (j : Fin 512) :
    (Host.dynamicUpdateSlice v (broadcastInDim S1x8x512 ![1, 2] bcast_S8x512_S1x8x512_1_2 h) (starts w) updateFits_S2048x8x512_S1x8x512
      : FVec Ideal S2048x8x512 .f32) (ix3 ⟨k, hk⟩ n j) = h (ix2 n j) := by
  rw [WordCmp.dynamicUpdateSlice_eq_update _ _ _ _ ![k, 0, 0] (fits k hk) (starts_eq hw hk), updateSlice_apply, dif_pos ?_]
  · pointwise
  · intro a
    match a with
    | ⟨0, _⟩ => exact ⟨le_refl k, Nat.lt_succ_self k⟩
    | ⟨1, _⟩ => exact ⟨Nat.zero_le _, (show n.val < 0 + 8 by omega)⟩
    | ⟨2, _⟩ => exact ⟨Nat.zero_le _, (show j.val < 0 + 512 by omega)⟩

/-- And at another row. -/
theorem update_there (v : FVec Ideal S2048x8x512 .f32) (h : FVec Ideal S8x512 .f32) {w : W} {k : ℕ}
    (hw : w = fun _ => BitVec.ofNat 32 k) (hk : k < 2048) (s : Fin 2048) (hs : s.val < k) (n : Fin 8) (j : Fin 512) :
    (Host.dynamicUpdateSlice v (broadcastInDim S1x8x512 ![1, 2] bcast_S8x512_S1x8x512_1_2 h) (starts w) updateFits_S2048x8x512_S1x8x512
      : FVec Ideal S2048x8x512 .f32) (ix3 s n j) = v (ix3 s n j) := by
  rw [WordCmp.dynamicUpdateSlice_eq_update _ _ _ _ ![k, 0, 0] (fits k hk) (starts_eq hw hk), updateSlice_apply, dif_neg ?_]
  intro hin
  have h0 : k ≤ s.val := (hin 0).1
  omega

variable (X : Valuation τ sig (Elt Ideal))

def vA : FVec Ideal S2048x8x512 .f32 := X (Proc.devRef .tc main_v86_0)
def vU : FVec Ideal S2048x8x512 .f32 := X (Proc.devRef .tc main_v86_1)
def vH : FVec Ideal S8x512 .f32 := X (Proc.devRef .tc main_v86_3)
def vY : FVec Ideal S2048x8x512 .f32 := X (Proc.devRef .tc main_v86_4)

theorem res_at {k : ℕ} (hw : X (Proc.devRef .tc main_v86_2) = (fun _ => BitVec.ofNat 32 k)) (hk : k < 2048) (n : Fin 8) (j : Fin 512) :
    (res_main_while0b_v109 X : FVec Ideal S8x512 .f32) (ix2 n j)
      = vA X (ix3 ⟨k, hk⟩ n j)
          * vH X (ix2 n j)
        + vU X (ix3 ⟨k, hk⟩ n j) := by
  unfold res_main_while0b_v109
  exact congrArg₂ (fun a b : EReal => a * vH X (ix2 n j) + b)
    (slice_at _ hw hk n j) (slice_at _ hw hk n j)

theorem step_ctr {k : ℕ} (hw : X (Proc.devRef .tc main_v86_2) = (fun _ => BitVec.ofNat 32 k)) :
    STEP X (Proc.devRef .tc main_v86_2) = (fun _ => BitVec.ofNat 32 (k + 1)) := by
  rw [STEP_main_v86_2]
  unfold step_main_v86_2
  rw [hw]
  funext i
  show BitVec.ofNat 32 k + 1#32 = BitVec.ofNat 32 (k + 1)
  rw [BitVec.ofNat_add]

theorem step_h {k : ℕ} (hw : X (Proc.devRef .tc main_v86_2) = (fun _ => BitVec.ofNat 32 k)) (hk : k < 2048) (n : Fin 8) (j : Fin 512) :
    vH (STEP X) (ix2 n j)
      = vA X (ix3 ⟨k, hk⟩ n j)
          * vH X (ix2 n j)
        + vU X (ix3 ⟨k, hk⟩ n j) := by
  unfold vH
  rw [STEP_main_v86_3]
  exact res_at X hw hk n j

theorem step_here {k : ℕ} (hw : X (Proc.devRef .tc main_v86_2) = (fun _ => BitVec.ofNat 32 k)) (hk : k < 2048) (n : Fin 8) (j : Fin 512) :
    vY (STEP X) (ix3 ⟨k, hk⟩ n j)
      = vA X (ix3 ⟨k, hk⟩ n j)
          * vH X (ix2 n j)
        + vU X (ix3 ⟨k, hk⟩ n j) := by
  unfold vY
  rw [STEP_main_v86_4]
  exact (update_here _ _ hw hk n j).trans (res_at X hw hk n j)

theorem step_there {k : ℕ} (hw : X (Proc.devRef .tc main_v86_2) = (fun _ => BitVec.ofNat 32 k)) (hk : k < 2048)
    (s : Fin 2048) (hs : s.val < k) (n : Fin 8) (j : Fin 512) :
    vY (STEP X) (ix3 s n j)
      = vY X (ix3 s n j) := by
  unfold vY
  rw [STEP_main_v86_4]
  exact update_there _ _ hw hk s hs n j

end Cert.LruRefIdeal.Loop

end
-- ==== Proof.Lru.RefOut.lean ====
/-
  What the recurrent branch's reference makes of its loop's last state, read at an index.
-/
module

public import proofs.«01_k».proof.Proof.Gen.LruRefIdeal.Run
public import proofs.«01_k».proof.Proof.Lru.Math

@[expose] public section

set_option maxRecDepth 16384

noncomputable section

namespace Cert.LruRefIdeal.Loop

open Cert.LruRefIdeal Cert.LruRefIdeal.Gen Cert.LruRefIdeal.Value Idealize.ShloMosaic Idealize.ShloMosaic.TcCoe
open Cert.LruMath

variable (A : Args)

/-- The other half of the projection. -/
def rOther (x : FVec Ideal S8x2048x1024 .f32) (w : FVec Ideal S1x1024x2560 .f32) : FVec Ideal S8x2048x512 .f32 :=
  Host.dotGeneral (F := Ideal) dot_S8x2048x1024_S1024x512_S8x2048x512_2_0_01_1_n_n none x
    (shapeCast S1024x512 (extractStridedSlice S1x1024x512 ![0, 0, 2048] w slices_S1x1024x2560_S1x1024x512_0_0_2048) shapeCasts_S1x1024x512_S1024x512)

theorem other_at (n : Fin 8) (s : Fin 2048) (j : Fin 512) :
    rOther A.x A.w (ix3 n s j) = proj A n s.val ⟨2048 + j.val, by omega⟩ := by
  unfold rOther
  pointwise
  unfold proj
  refine Finset.sum_congr rfl fun d _ => ?_
  rw [show (⟨s.val % 2048, Nat.mod_lt _ (by decide)⟩ : Fin 2048) = s from Fin.ext (Nat.mod_eq_of_lt s.isLt)]

/-- The last operations, of the states `H` and the other half `g`. -/
def rLast (H : FVec Ideal S2048x8x512 .f32) (g : FVec Ideal S8x2048x512 .f32) : FVec Ideal S8x2048x512 .bf16 :=
  truncf (F := Ideal) .bf16 (mulf (F := Ideal) (transpose S8x2048x512 [1, 0, 2] H transposes_S2048x8x512_S8x2048x512_1_0_2)
    (mulf (F := Ideal) g (mulf (F := Ideal) (broadcastInDim S8x2048x512 ![] bcast_S_S8x2048x512 (constant (F := Ideal) S_ .f32 0x3F000000#32))
      (addf (F := Ideal) (broadcastInDim S8x2048x512 ![] bcast_S_S8x2048x512 (constant (F := Ideal) S_ .f32 0x3F800000#32))
        (Host.tanh (F := Ideal) (mulf (F := Ideal) (broadcastInDim S8x2048x512 ![] bcast_S_S8x2048x512 (constant (F := Ideal) S_ .f32 0x3F4C422A#32))
          (addf (F := Ideal) g (mulf (F := Ideal) (broadcastInDim S8x2048x512 ![] bcast_S_S8x2048x512 (constant (F := Ideal) S_ .f32 0x3D372713#32))
            (mulf (F := Ideal) (mulf (F := Ideal) g g) g))))))))) bitsLt_bf16_f32

theorem half_first (g h t : EReal) : g * (h * t) = h * g * t := by rw [← mul_assoc, mul_comm g h]

theorem last_at (H : FVec Ideal S2048x8x512 .f32) (g : FVec Ideal S8x2048x512 .f32) (n : Fin 8) (s : Fin 2048) (j : Fin 512) :
    rLast H g (ix3 n s j) = H (ix3 s n j) * gelu (g (ix3 n s j)) := by
  unfold rLast gelu
  pointwise
  exact congrArg (H (ix3 s n j) * ·) (half_first _ _ _)

theorem out_eq (X : Valuation τ sig (Elt Ideal)) (hx : X (Proc.devRef .tc main_arg0) = A.x) (hw : X (Proc.devRef .tc main_arg1) = A.w) :
    out_main_v105 X = rLast (X (Proc.devRef .tc main_v86_4)) (rOther A.x A.w) := by
  rw [← hx, ← hw]
  unfold out_main_v105 rLast rOther
  rfl

end Cert.LruRefIdeal.Loop

end
-- ==== Proof.Lru.RefLoop.lean ====
/-
  The loop of the recurrent branch's reference: the states its trips leave, and the result.
-/
module

public import proofs.«01_k».proof.Proof.Lru.RefEntry
public import proofs.«01_k».proof.Proof.Lru.RefGate
public import proofs.«01_k».proof.Proof.Lru.RefTrip
public import proofs.«01_k».proof.Proof.Lru.RefOut

@[expose] public section

set_option maxRecDepth 16384

noncomputable section

namespace Cert.LruRefIdeal.Loop

open Cert.LruRefIdeal Cert.LruRefIdeal.Gen Cert.LruRefIdeal.Value Idealize.ShloMosaic Idealize.ShloMosaic.TcCoe
open Idealize.ShloMosaic.StableHlo
open Cert.LruMath Cert.LruRefIdeal.Entry Cert.LruRefIdeal.Step

variable {A : Args} {V : Valuation τ sig (Elt Ideal)}

theorem holds0 (h : Holds A V) : Holds A (after hostOps0 V) :=
  ⟨(keep_main_arg0_hostOps0 V).trans h.x, (keep_main_arg1_hostOps0 V).trans h.w, (keep_main_arg2_hostOps0 V).trans h.cw,
    (keep_main_arg3_hostOps0 V).trans h.cb, (keep_main_arg4_hostOps0 V).trans h.wr, (keep_main_arg5_hostOps0 V).trans h.br,
    (keep_main_arg6_hostOps0 V).trans h.wi, (keep_main_arg7_hostOps0 V).trans h.bi, (keep_main_arg8_hostOps0 V).trans h.lam⟩
theorem holds1 (h : Holds A V) : Holds A (after hostOps0_1 V) :=
  ⟨(keep_main_arg0_hostOps0_1 V).trans h.x, (keep_main_arg1_hostOps0_1 V).trans h.w, (keep_main_arg2_hostOps0_1 V).trans h.cw,
    (keep_main_arg3_hostOps0_1 V).trans h.cb, (keep_main_arg4_hostOps0_1 V).trans h.wr, (keep_main_arg5_hostOps0_1 V).trans h.br,
    (keep_main_arg6_hostOps0_1 V).trans h.wi, (keep_main_arg7_hostOps0_1 V).trans h.bi, (keep_main_arg8_hostOps0_1 V).trans h.lam⟩

/-- The contents when the loop begins. -/
structure Start (A : Args) (X : Valuation τ sig (Elt Ideal)) : Prop where
  a : X (Proc.devRef .tc main_v86_0) = A_main_v83 (F := Ideal) A.x A.w A.cw A.cb A.wr A.br A.wi A.bi A.lam
  u : X (Proc.devRef .tc main_v86_1) = A_main_v84 (F := Ideal) A.x A.w A.cw A.cb A.wr A.br A.wi A.bi A.lam
  ctr : X (Proc.devRef .tc main_v86_2) = (fun _ => (0#32 : BitVec 32))
  h : X (Proc.devRef .tc main_v86_3) = K_main_v82 (F := Ideal)

theorem start (h : Holds A V) :
    Start A (after hostOps0_4 (after hostOps0_3 (after hostOps0_2 (after hostOps0_1 (after hostOps0 V))))) := by
  have g2 := s0_v2 h
  have g3 := (s1_v3 (V := after hostOps0 V)).trans (s0_v3 h)
  have g4 := (s1_v4 (V := after hostOps0 V)).trans (s0_v4 h)
  have h1 := holds1 (holds0 h)
  have g5 := s1_v5 g2 (s0_c (V := V))
  have g35 := s2_v35 g5 g3 g4
  have g66 := s2_v66 h1 g5 g3 g4
  have g68 := s2_v68 h1 g5 g3 g4
  have g70 := s3_v70 (s2_v69 h1)
  have k35 := s3_v35.trans g35
  have k66 := s3_v66.trans g66
  have k68 := s3_v68.trans g68
  exact ⟨s4_v86_0 k68 g70, s4_v86_1 k68 g70 k66 k35, s4_v86_2, s4_v86_3⟩

/-- What `k` trips have made. -/
structure Trips (A : Args) (k : ℕ) (X : Valuation τ sig (Elt Ideal)) : Prop where
  a : ∀ (s : Fin 2048) (n : Fin 8) (j : Fin 512), vA X (ix3 s n j) = ca A n j s.val
  u : ∀ (s : Fin 2048) (n : Fin 8) (j : Fin 512), vU X (ix3 s n j) = cu A n j s.val
  ctr : X (Proc.devRef .tc main_v86_2) = (fun _ => BitVec.ofNat 32 k)
  h : ∀ (n : Fin 8) (j : Fin 512), vH X (ix2 n j) = state A n j k
  y : ∀ (s : Fin 2048), s.val < k → ∀ (n : Fin 8) (j : Fin 512), vY X (ix3 s n j) = state A n j (s.val + 1)

theorem trips_zero {X : Valuation τ sig (Elt Ideal)} (S : Start A X) : Trips A 0 X where
  a := fun s n j => by unfold vA; rw [S.a]; exact Ref.ca_at A s n j
  u := fun s n j => by unfold vU; rw [S.u]; exact Ref.cu_at A s n j
  ctr := S.ctr
  h := fun n j => by
    unfold vH
    rw [S.h]
    unfold K_main_v82 K_main_cst_5
    pointwise
    rfl
  y := fun s hs => absurd hs (Nat.not_lt_zero _)

theorem trips_succ {k : ℕ} (hk : k < 2048) {X : Valuation τ sig (Elt Ideal)} (T : Trips A k X) : Trips A (k + 1) (STEP X) where
  a := fun s n j => by
    rw [show vA (STEP X) = vA X from STEP_main_v86_0 X]
    exact T.a s n j
  u := fun s n j => by
    rw [show vU (STEP X) = vU X from STEP_main_v86_1 X]
    exact T.u s n j
  ctr := step_ctr X T.ctr
  h := fun n j => by
    rw [step_h X T.ctr hk, T.a, T.h, T.u]
    rfl
  y := fun s hs n j => by
    by_cases h : s.val < k
    · rw [step_there X T.ctr hk s h]
      exact T.y s h n j
    · obtain rfl : s = ⟨k, hk⟩ := Fin.ext (show s.val = k by omega)
      rw [step_here X T.ctr hk, T.a, T.h, T.u]
      rfl

theorem trips {X : Valuation τ sig (Elt Ideal)} (S : Start A X) (k : ℕ) (hk : k ≤ 2048) : Trips A k (STEP^[k] X) := by
  induction k with
  | zero => exact trips_zero S
  | succ k ih =>
    rw [Function.iterate_succ_apply']
    exact trips_succ (by omega) (ih (by omega))

/-- The result, of what all the trips have made. -/
theorem result {X : Valuation τ sig (Elt Ideal)} (T : Trips A 2048 X) (hx : X (Proc.devRef .tc main_arg0) = A.x)
    (hw : X (Proc.devRef .tc main_arg1) = A.w) (n : Fin 8) (s : Fin 2048) (j : Fin 512) :
    (out_main_v105 X : FVec Ideal S8x2048x512 .bf16) (ix3 n s j) = out A n s.val j := by
  rw [out_eq A X hx hw]
  refine (last_at _ _ n s j).trans ?_
  rw [other_at]
  exact congrArg (· * gelu (proj A n s.val ⟨2048 + j.val, by omega⟩)) (T.y s s.isLt n j)

end Cert.LruRefIdeal.Loop

end
-- ==== Proof.Lru.Value.lean ====
/-
  The recurrent branch's kernel and its reference leave the same array: it is the same function of the arguments.
-/
module

public import proofs.«01_k».proof.Defs
public import proofs.«01_k».proof.Proof.Lru.Kernel
public import proofs.«01_k».proof.Proof.Lru.RefLoop

@[expose] public section

set_option maxRecDepth 16384

noncomputable section

namespace Cert.LruValue

open Idealize.ShloMosaic Idealize.SL.Sem Cert.LruMath
open Cert.LruRefIdeal.Entry Cert.LruRefIdeal.Loop

theorem at3 (i : Cert.LruRefIdeal.S8x2048x512.Idx) : i = ix3 (i 0) (i 1) (i 2) := by
  funext a
  match a with
  | ⟨0, _⟩ => rfl
  | ⟨1, _⟩ => rfl
  | ⟨2, _⟩ => rfl

theorem algebraic : Cert.algebraic_LruIdeal_LruRefIdeal (hLruIdeal := Cert.LruIdeal.Gen.facts)
    (hLruRefIdeal := Cert.LruRefIdeal.Gen.facts) := by
  intro m g m' g' _ hargs
  refine ⟨fun c => Cert.LruIdeal.Body.G m c, ?_, ?_⟩
  · refine θ_run_mono (θ_run_and (Cert.LruIdeal.Body.frame m g) (Cert.LruIdeal.Body.run_main m g)) (fun r h c => ?_)
    exact ⟨((h.2 c).1 9).trans (Cert.LruIdeal.Body.final9 m c), h.1.1 c⟩
  refine θ_run_mono (Cert.LruRefIdeal.Value.run m' g') (fun r h c => ?_)
  obtain ⟨r0, hkept⟩ := h c
  obtain ⟨h0, h1, h2, h3, h4, h5, h6, h7, h8⟩ := hargs c
  refine ⟨r0.trans (funext fun i => ?_), hkept⟩
  rw [at3 i]
  refine (result (A := Cert.LruIdeal.Body.args m c) (trips (start ⟨h0, h1, h2, h3, h4, h5, h6, h7, h8⟩) 2048 (le_refl _)) ?_ ?_ _ _ _).trans
    (Cert.LruIdeal.Body.G_ix m c _ _ _).symm
  · exact (Cert.LruRefIdeal.Value.iter_main_arg0 m' c 2048).trans h0
  · exact (Cert.LruRefIdeal.Value.iter_main_arg1 m' c 2048).trans h1

end Cert.LruValue

end
-- ==== Proof.Qkv.Math.lean ====
/-
  The projections of a layer over the extended reals: every column of the input projection at every position, and
  the four arrays read off its query, key and value columns.
-/
module

public import Idealize.ShloMosaic.Lib.Pointwise
public import Idealize.ShloMosaic.Lib.Claim

@[expose] public section

noncomputable section

namespace Cert.QkvMath

open Idealize.ShloMosaic

abbrev SX : Shape := ⟨3, ![8, 2048, 1024]⟩
abbrev SW : Shape := ⟨3, ![1, 1024, 2560]⟩

/-- The scores' scale, 64 ^ (-1/2). -/
abbrev scale : EReal := Ideal.ofBits .f32 0x3E000000#32
/-- The number of positions in a block of keys. -/
abbrev len : EReal := Ideal.ofBits .f32 0x43800000#32

variable (x : FVec Ideal SX .f32) (w : FVec Ideal SW .f32)

/-- Column `e` of the projection of position `s` of sequence `n`. -/
def proj (n : Fin 8) (s : Fin 2048) (e : Fin 2560) : EReal :=
  ∑ d : Fin 1024, x (ix3 n s d) * w (ix3 0 d e)

/-- Queries, scaled. -/
def query (n : Fin 8) (s : Fin 2048) (j : Fin 512) : EReal := proj x w n s ⟨j.val, by omega⟩ * scale
/-- Keys. -/
def key (n : Fin 8) (s : Fin 2048) (j : Fin 512) : EReal := proj x w n s ⟨512 + j.val, by omega⟩
/-- Values, each block of 256 positions transposed. -/
def value (n : Fin 8) (b : Fin 8) (j : Fin 512) (p : Fin 256) : EReal :=
  proj x w n ⟨256 * b.val + p.val, by omega⟩ ⟨1024 + j.val, by omega⟩
/-- The mean of the keys of a block of 256 positions. -/
def keyMean (n : Fin 8) (b : Fin 8) (j : Fin 512) : EReal :=
  Ideal.div (∑ p : Fin 256, key x w n ⟨256 * b.val + p.val, by omega⟩ j) len

end Cert.QkvMath

end
-- ==== Proof.Qkv.Kernel.lean ====
/-
  The projection kernel's four results, as functions of its arguments. A point of the grid works on 512 positions
  of one sequence; the four output arrays are tiled by the points' blocks.
-/
module

public import proofs.«01_k».proof.Proof.Gen.QkvIdeal.Value
public import proofs.«01_k».proof.Proof.Qkv.Math

@[expose] public section

set_option maxRecDepth 16384

noncomputable section

namespace Cert.QkvIdeal.Kernel

open Cert.QkvIdeal Cert.QkvIdeal.Gen Idealize.ShloMosaic Idealize.ShloMosaic.TcCoe Idealize.SL.Sem
open Idealize.ShloMosaic.Pipeline (Dat)
open Cert.QkvMath

variable (m : (ℓ : Loc nD τ sig) → Buf (Elt Ideal) ℓ) (c : Dev nD)

abbrev x0 : FVec Ideal S8x2048x1024 .f32 := m ((c : Thread nD τ).loc main_arg0)
abbrev x1 : FVec Ideal S1x1024x2560 .f32 := m ((c : Thread nD τ).loc main_arg1)

/-- The four results. -/
def G2 : FVec Ideal S8x2048x512 .bf16 := fun i => query (x0 m c) (x1 m c) (i 0) (i 1) (i 2)
def G3 : FVec Ideal S8x2048x512 .bf16 := fun i => key (x0 m c) (x1 m c) (i 0) (i 1) (i 2)
def G4 : FVec Ideal S8x8x512x256 .bf16 := fun i => value (x0 m c) (x1 m c) (i 0) (i 1) (i 2) (i 3)
def G5 : FVec Ideal S8x8x1x512 .f32 := fun i => keyMean (x0 m c) (x1 m c) (i 0) (i 1) (i 3)

/-! ## The points and their blocks -/

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx4 : ∀ t : Fin cfg0.N, win0_4.index t (0 : Fin 4) = t.val / 4 ∧ win0_4.index t (1 : Fin 4) = t.val % 4 ∧ win0_4.index t (2 : Fin 4) = 0 ∧ win0_4.index t (3 : Fin 4) = 0 :=
  (by decide +kernel : ∀ t : Fin grid0.N, _)
theorem idx5 : ∀ t : Fin cfg0.N, win0_5.index t (0 : Fin 4) = t.val / 4 ∧ win0_5.index t (1 : Fin 4) = t.val % 4 ∧ win0_5.index t (2 : Fin 4) = 0 ∧ win0_5.index t (3 : Fin 4) = 0 :=
  (by decide +kernel : ∀ t : Fin grid0.N, _)
theorem flush2 : ∀ t : Fin cfg0.N, (cfg0.win 2).flush t = true := (by decide +kernel : ∀ t : Fin grid0.N, _)
theorem flush3 : ∀ t : Fin cfg0.N, (cfg0.win 3).flush t = true := (by decide +kernel : ∀ t : Fin grid0.N, _)
theorem flush4 : ∀ t : Fin cfg0.N, (cfg0.win 4).flush t = true := (by decide +kernel : ∀ t : Fin grid0.N, _)
theorem flush5 : ∀ t : Fin cfg0.N, (cfg0.win 5).flush t = true := (by decide +kernel : ∀ t : Fin grid0.N, _)

/-- The sequence a point works on, and the position of its row `r`. -/
abbrev seqOf (t : Fin cfg0.N) : Fin 8 := ⟨t.val / 4, by have : t.val < 32 := t.isLt; omega⟩
abbrev posOf (t : Fin cfg0.N) (r : Fin 512) : Fin 2048 := ⟨512 * (t.val % 4) + r.val, by omega⟩
/-- The key block of the point's half `b`. -/
abbrev blkOf (t : Fin cfg0.N) (b : Fin 2) : Fin 8 := ⟨2 * (t.val % 4) + b.val, by omega⟩

theorem V2 : @Eq (FVec Ideal S1024x1536 .bf16) (V m c main_v2)
    ((truncf .bf16 (shapeCast S1024x1536 (extractStridedSlice S1x1024x1536 ![0, 0, 0] (x1 m c) slices_S1x1024x2560_S1x1024x1536_0_0_0) shapeCasts_S1x1024x1536_S1024x1536 : FVec Ideal S1024x1536 .f32) bitsLt_bf16_f32 : FVec Ideal S1024x1536 .bf16)) := by
  unfold V
  after_results_simp <;> rfl

theorem weights (w : FVec Ideal S1x1024x2560 .f32) (d : Fin 1024) (e : Fin 1536) :
    shapeCast S1024x1536 (extractStridedSlice S1x1024x1536 ![0, 0, 0] w slices_S1x1024x2560_S1x1024x1536_0_0_0) shapeCasts_S1x1024x1536_S1024x1536 (ix2 d e)
      = w (ix3 0 d ⟨e.val, by omega⟩) := by
  refine (shapeCast_apply _ _ _ (ix3 0 d e) ?_).trans ?_
  · rw [Shape.rowMajor_val_three, Shape.rowMajor_val_two]
    show (0 * 1024 + d.val) * 1536 + e.val = d.val * 1536 + e.val
    omega
  · refine extractStridedSlice_apply _ _ _ _ _ (fun a => ?_)
    match a with
    | ⟨0, _⟩ => rfl
    | ⟨1, _⟩ => show d.val = 0 + d.val; omega
    | ⟨2, _⟩ => show e.val = 0 + e.val; omega

theorem b0 (t : Fin cfg0.N) (u : Fin 1) (r : Fin 512) (k : Fin 1024) :
    (iblk m c 0 t : FVec Ideal S1x512x1024 .f32) (ix3 u r k) = x0 m c (ix3 (seqOf t) (posOf t r) k) := by
  unfold iblk
  rw [View.read_apply]
  show (V m c main_arg0 : FVec Ideal S8x2048x1024 .f32) _ = _
  rw [V_main_arg0]
  obtain ⟨e0, e1, e2⟩ := idx0 t
  have he : (((cfg0.win 0).blk t).view.emb (ix3 u r k) : S8x2048x1024.Idx) = ix3 (seqOf t) (posOf t r) k := by
    funext a; apply Fin.ext
    match a with
    | ⟨0, _⟩ => show win0_0.index t 0 * 1 + 1 * u.val = t.val / 4; rw [e0]; omega
    | ⟨1, _⟩ => show win0_0.index t 1 * 512 + 1 * r.val = 512 * (t.val % 4) + r.val; rw [e1]; omega
    | ⟨2, _⟩ => show win0_0.index t 2 * 1024 + 1 * k.val = k.val; rw [e2]; omega
  erw [he]

theorem b1 (t : Fin cfg0.N) (d : Fin 1024) (e : Fin 1536) :
    (iblk m c 1 t : FVec Ideal S1024x1536 .bf16) (ix2 d e) = x1 m c (ix3 0 d ⟨e.val, by omega⟩) := by
  unfold iblk
  rw [View.read_apply]
  show (V m c main_v2 : FVec Ideal S1024x1536 .bf16) _ = _
  rw [V2]
  obtain ⟨e0, e1⟩ := idx1 t
  have he : (((cfg0.win 1).blk t).view.emb (ix2 d e) : S1024x1536.Idx) = ix2 d e := by
    funext a; apply Fin.ext
    match a with
    | ⟨0, _⟩ => show win0_1.index t 0 * 1024 + 1 * d.val = d.val; rw [e0]; omega
    | ⟨1, _⟩ => show win0_1.index t 1 * 1536 + 1 * e.val = e.val; rw [e1]; omega
  erw [he]
  exact weights _ d e

/-! ## What a point computes -/

theorem dot_apply (P0 : FVec Ideal S1x512x1024 .f32) (P1 : FVec Ideal S1024x1536 .bf16) (r : Fin 512) (e : Fin 1536) :
    k0_pay4 (F := Ideal) P0 P1 (ix2 r e) = ∑ d : Fin 1024, P0 (ix3 0 r d) * P1 (ix2 d e) := by
  pointwise [k0_pay4]

/-- A block as the body loads it: whole. -/
def ld0 (B : FVec Ideal S1x512x1024 .f32) : FVec Ideal S1x512x1024 .f32 := fun i => B (r0_0.idx i)
def ld1 (B : FVec Ideal S1024x1536 .bf16) : FVec Ideal S1024x1536 .bf16 := fun i => B (r0_1.idx i)

/-- The blocks a point loads. -/
abbrev l0 (t : Fin cfg0.N) : FVec Ideal S1x512x1024 .f32 := ld0 (iblk m c 0 t)
abbrev l1 (t : Fin cfg0.N) : FVec Ideal S1024x1536 .bf16 := ld1 (iblk m c 1 t)

theorem l0_apply (t : Fin cfg0.N) (r : Fin 512) (k : Fin 1024) :
    l0 m c t (ix3 0 r k) = x0 m c (ix3 (seqOf t) (posOf t r) k) := by
  rw [← b0 m c t 0 r k]
  refine congrArg (iblk m c 0 t : FVec Ideal S1x512x1024 .f32) (funext fun a => Fin.ext ?_)
  match a with
  | ⟨0, _⟩ => rfl
  | ⟨1, _⟩ => show 0 + 1 * r.val = r.val; omega
  | ⟨2, _⟩ => show 0 + 1 * k.val = k.val; omega

theorem l1_apply (t : Fin cfg0.N) (d : Fin 1024) (e : Fin 1536) :
    l1 m c t (ix2 d e) = x1 m c (ix3 0 d ⟨e.val, by omega⟩) := by
  rw [← b1 m c t d e]
  refine congrArg (iblk m c 1 t : FVec Ideal S1024x1536 .bf16) (funext fun a => Fin.ext ?_)
  match a with
  | ⟨0, _⟩ => show 0 + 1 * d.val = d.val; omega
  | ⟨1, _⟩ => show 0 + 1 * e.val = e.val; omega

theorem proj_apply (t : Fin cfg0.N) (r : Fin 512) (e : Fin 1536) :
    k0_pay4 (F := Ideal) (l0 m c t) (l1 m c t) (ix2 r e)
      = proj (x0 m c) (x1 m c) (seqOf t) (posOf t r) ⟨e.val, by omega⟩ := by
  rw [dot_apply]
  unfold proj
  exact Finset.sum_congr rfl fun d _ => congrArg₂ (· * ·) (l0_apply m c t r d) (l1_apply m c t d e)

theorem ix2_of (f : S512x1536.Idx) (r : Fin 512) (e : Fin 1536) (h0 : (f 0).val = r.val) (h1 : (f 1).val = e.val) :
    f = ix2 r e := by
  funext q
  match q with
  | ⟨0, _⟩ => exact Fin.ext h0
  | ⟨1, _⟩ => exact Fin.ext h1

section Pieces

variable {F : FTy → Type} [FloatOps F] (B0 : Vec F S1x512x1024 .f32) (B1 : Vec F S1024x1536 .bf16)

/-- An output block is one function of the loaded blocks, whichever store wrote the index. -/
theorem pieces2 (y : S1x512x512.Idx) : out0_2 B0 B1 y = Value.E2 (View.ld B0 r0_0) (View.ld B1 r0_1) y := by
  unfold out0_2
  exact Value.canon2_eq _ _ y
theorem pieces3 (y : S1x512x512.Idx) : out0_3 B0 B1 y = Value.E3 (View.ld B0 r0_0) (View.ld B1 r0_1) y := by
  unfold out0_3
  exact Value.canon3_eq _ _ y
theorem pieces4 (y : S1x2x512x256.Idx) : out0_4 B0 B1 y = Value.E4 (View.ld B0 r0_0) (View.ld B1 r0_1) y := by
  unfold out0_4
  exact Value.canon4_eq _ _ y
theorem pieces5 (y : S1x2x1x512.Idx) : out0_5 B0 B1 y = Value.E5 (View.ld B0 r0_0) (View.ld B1 r0_1) y := by
  unfold out0_5
  exact Value.canon5_eq _ _ y

end Pieces

/-- What a point leaves in each output block, over any blocks `B0`, `B1` of the inputs. -/
theorem left2 (B0 : FVec Ideal S1x512x1024 .f32) (B1 : FVec Ideal S1024x1536 .bf16) (y : S1x512x512.Idx) :
    out0_2 (F := Ideal) B0 B1 y
      = k0_pay4 (F := Ideal) (ld0 B0) (ld1 B1)
          (ix2 (y 1) ⟨(y 2).val, by have : (y 2).val < 512 := (y 2).isLt; omega⟩) * scale := by
  refine (pieces2 (F := Ideal) B0 B1 y).trans ?_
  show Value.E2 (F := Ideal) (ld0 B0) (ld1 B1) y = _
  generalize ld0 B0 = P0
  generalize ld1 B1 = P1
  have h2 : (y 2).val < 512 := (y 2).isLt
  show k0_pay4 (F := Ideal) P0 P1 (Value.ix2_0 y) * scale = _
  rw [ix2_of (Value.ix2_0 y) (y 1) ⟨(y 2).val, by omega⟩ rfl rfl]

theorem left3 (B0 : FVec Ideal S1x512x1024 .f32) (B1 : FVec Ideal S1024x1536 .bf16) (y : S1x512x512.Idx) :
    out0_3 (F := Ideal) B0 B1 y
      = k0_pay4 (F := Ideal) (ld0 B0) (ld1 B1)
          (ix2 (y 1) ⟨512 + (y 2).val, by have : (y 2).val < 512 := (y 2).isLt; omega⟩) := by
  refine (pieces3 (F := Ideal) B0 B1 y).trans ?_
  show Value.E3 (F := Ideal) (ld0 B0) (ld1 B1) y = _
  generalize ld0 B0 = P0
  generalize ld1 B1 = P1
  have h2 : (y 2).val < 512 := (y 2).isLt
  show k0_pay4 (F := Ideal) P0 P1 (Value.ix3_0 y) = _
  rw [ix2_of (Value.ix3_0 y) (y 1) ⟨512 + (y 2).val, by omega⟩ rfl (Nat.add_comm _ _)]

theorem left4 (B0 : FVec Ideal S1x512x1024 .f32) (B1 : FVec Ideal S1024x1536 .bf16) (y : S1x2x512x256.Idx) :
    out0_4 (F := Ideal) B0 B1 y
      = k0_pay4 (F := Ideal) (ld0 B0) (ld1 B1)
          (ix2 ⟨(y 1).val * 256 + (y 3).val, by
              have : (y 1).val < 2 := (y 1).isLt; have : (y 3).val < 256 := (y 3).isLt; omega⟩
            ⟨1024 + (y 2).val, by have : (y 2).val < 512 := (y 2).isLt; omega⟩) := by
  refine (pieces4 (F := Ideal) B0 B1 y).trans ?_
  show Value.E4 (F := Ideal) (ld0 B0) (ld1 B1) y = _
  generalize ld0 B0 = P0
  generalize ld1 B1 = P1
  have h1 : (y 1).val < 2 := (y 1).isLt
  have h2 : (y 2).val < 512 := (y 2).isLt
  have h3 : (y 3).val < 256 := (y 3).isLt
  show k0_pay4 (F := Ideal) P0 P1 (Value.ix4_0 y) = _
  rw [ix2_of (Value.ix4_0 y) ⟨(y 1).val * 256 + (y 3).val, by omega⟩ ⟨1024 + (y 2).val, by omega⟩ rfl (Nat.add_comm _ _)]

theorem sum_lo (P : FVec Ideal S512x1536 .f32) (j : Fin 512) :
    multiReduction (F := Ideal) .add [0] S512 (extractStridedSlice S256x512 ![0, 0] (extractStridedSlice S512x512 ![0, 512] P slices_S512x1536_o0_512_S512x512) slices_S512x512_o0_0_S256x512) 0x00000000#32 reduces_S256x512_S512 (.inl rfl) rfl (ix1 j)
      = ∑ p : Fin 256, P (ix2 ⟨p.val, by omega⟩ ⟨512 + j.val, by omega⟩) := by
  pointwise []

theorem sum_hi (P : FVec Ideal S512x1536 .f32) (j : Fin 512) :
    multiReduction (F := Ideal) .add [0] S512 (extractStridedSlice S256x512 ![256, 0] (extractStridedSlice S512x512 ![0, 512] P slices_S512x1536_o0_512_S512x512) slices_S512x512_o256_0_S256x512) 0x00000000#32 reduces_S256x512_S512 (.inl rfl) rfl (ix1 j)
      = ∑ p : Fin 256, P (ix2 ⟨256 + p.val, by omega⟩ ⟨512 + j.val, by omega⟩) := by
  pointwise []

theorem left5 (B0 : FVec Ideal S1x512x1024 .f32) (B1 : FVec Ideal S1024x1536 .bf16) (y : S1x2x1x512.Idx) :
    out0_5 (F := Ideal) B0 B1 y
      = Ideal.div (∑ p : Fin 256, k0_pay4 (F := Ideal) (ld0 B0) (ld1 B1)
          (ix2 ⟨(y 1).val * 256 + p.val, by have : (y 1).val < 2 := (y 1).isLt; omega⟩
            ⟨512 + (y 3).val, by have : (y 3).val < 512 := (y 3).isLt; omega⟩)) len := by
  refine (pieces5 (F := Ideal) B0 B1 y).trans ?_
  show Value.E5 (F := Ideal) (ld0 B0) (ld1 B1) y = _
  generalize ld0 B0 = P0
  generalize ld1 B1 = P1
  have h1 : (y 1).val < 2 := (y 1).isLt
  have h3 : (y 3).val < 512 := (y 3).isLt
  show Ideal.div (Value.Fam5_0 (F := Ideal) P0 P1 (Value.sel5 y) (Value.ix5_0 y)) len = _
  have hi : Value.ix5_0 y = ix1 ⟨(y 3).val, h3⟩ := by
    funext q
    match q with
    | ⟨0, _⟩ => rfl
  rw [hi]
  refine congrArg (Ideal.div · len) ?_
  obtain h | h : (y 1).val = 0 ∨ (y 1).val = 1 := by omega
  · have hs : Value.sel5 y = ⟨0, by decide⟩ := Fin.ext h
    rw [hs]
    refine (sum_lo (k0_pay4 (F := Ideal) P0 P1) ⟨(y 3).val, h3⟩).trans (Finset.sum_congr rfl fun p _ => ?_)
    exact congrArg (k0_pay4 (F := Ideal) P0 P1) (ix2_of _ _ _ (by show p.val = (y 1).val * 256 + p.val; omega) rfl)
  · have hs : Value.sel5 y = ⟨1, by decide⟩ := Fin.ext h
    rw [hs]
    refine (sum_hi (k0_pay4 (F := Ideal) P0 P1) ⟨(y 3).val, h3⟩).trans (Finset.sum_congr rfl fun p _ => ?_)
    exact congrArg (k0_pay4 (F := Ideal) P0 P1) (ix2_of _ _ _ (by show 256 + p.val = (y 1).val * 256 + p.val; omega) rfl)

/-! ## The arrays after the run -/

theorem emb2 (t : Fin cfg0.N) (y : S1x512x512.Idx) :
    (((cfg0.win 2).blk t).view.emb y : S8x2048x512.Idx) = ix3 (seqOf t) (posOf t (y 1)) (y 2) := by
  obtain ⟨e0, e1, e2⟩ := idx2 t
  have h0 : (y 0).val < 1 := (y 0).isLt
  funext a; apply Fin.ext
  match a with
  | ⟨0, _⟩ => show win0_2.index t 0 * 1 + 1 * (y 0).val = t.val / 4; rw [e0]; omega
  | ⟨1, _⟩ => show win0_2.index t 1 * 512 + 1 * (y 1).val = 512 * (t.val % 4) + (y 1).val; rw [e1]; omega
  | ⟨2, _⟩ => show win0_2.index t 2 * 512 + 1 * (y 2).val = (y 2).val; rw [e2]; omega

theorem emb3 (t : Fin cfg0.N) (y : S1x512x512.Idx) :
    (((cfg0.win 3).blk t).view.emb y : S8x2048x512.Idx) = ix3 (seqOf t) (posOf t (y 1)) (y 2) := by
  obtain ⟨e0, e1, e2⟩ := idx3 t
  have h0 : (y 0).val < 1 := (y 0).isLt
  funext a; apply Fin.ext
  match a with
  | ⟨0, _⟩ => show win0_3.index t 0 * 1 + 1 * (y 0).val = t.val / 4; rw [e0]; omega
  | ⟨1, _⟩ => show win0_3.index t 1 * 512 + 1 * (y 1).val = 512 * (t.val % 4) + (y 1).val; rw [e1]; omega
  | ⟨2, _⟩ => show win0_3.index t 2 * 512 + 1 * (y 2).val = (y 2).val; rw [e2]; omega

theorem emb4 (t : Fin cfg0.N) (y : S1x2x512x256.Idx) :
    (((cfg0.win 4).blk t).view.emb y : S8x8x512x256.Idx) = ix4 (seqOf t) (blkOf t (y 1)) (y 2) (y 3) := by
  obtain ⟨e0, e1, e2, e3⟩ := idx4 t
  have h0 : (y 0).val < 1 := (y 0).isLt
  funext a; apply Fin.ext
  match a with
  | ⟨0, _⟩ => show win0_4.index t 0 * 1 + 1 * (y 0).val = t.val / 4; rw [e0]; omega
  | ⟨1, _⟩ => show win0_4.index t 1 * 2 + 1 * (y 1).val = 2 * (t.val % 4) + (y 1).val; rw [e1]; omega
  | ⟨2, _⟩ => show win0_4.index t 2 * 512 + 1 * (y 2).val = (y 2).val; rw [e2]; omega
  | ⟨3, _⟩ => show win0_4.index t 3 * 256 + 1 * (y 3).val = (y 3).val; rw [e3]; omega

theorem emb5 (t : Fin cfg0.N) (y : S1x2x1x512.Idx) :
    (((cfg0.win 5).blk t).view.emb y : S8x8x1x512.Idx) = ix4 (seqOf t) (blkOf t (y 1)) (y 2) (y 3) := by
  obtain ⟨e0, e1, e2, e3⟩ := idx5 t
  have h0 : (y 0).val < 1 := (y 0).isLt
  funext a; apply Fin.ext
  match a with
  | ⟨0, _⟩ => show win0_5.index t 0 * 1 + 1 * (y 0).val = t.val / 4; rw [e0]; omega
  | ⟨1, _⟩ => show win0_5.index t 1 * 2 + 1 * (y 1).val = 2 * (t.val % 4) + (y 1).val; rw [e1]; omega
  | ⟨2, _⟩ => show win0_5.index t 2 * 1 + 1 * (y 2).val = (y 2).val; rw [e2]; omega
  | ⟨3, _⟩ => show win0_5.index t 3 * 512 + 1 * (y 3).val = (y 3).val; rw [e3]; omega

theorem block2 (t : Fin cfg0.N) (y : S1x512x512.Idx) :
    out0_2 (F := Ideal) (iblk m c 0 t) (iblk m c 1 t) y = G2 m c (((cfg0.win 2).blk t).view.emb y) := by
  rw [left2, emb2]
  refine congrArg (· * scale) ?_
  exact (proj_apply m c t _ _).trans rfl

theorem block3 (t : Fin cfg0.N) (y : S1x512x512.Idx) :
    out0_3 (F := Ideal) (iblk m c 0 t) (iblk m c 1 t) y = G3 m c (((cfg0.win 3).blk t).view.emb y) := by
  rw [left3, emb3]
  exact (proj_apply m c t _ _).trans rfl

theorem pos_half (t : Fin cfg0.N) (b : Fin 2) (p : Fin 256) :
    posOf t ⟨b.val * 256 + p.val, by omega⟩ = ⟨256 * (blkOf t b).val + p.val, by omega⟩ :=
  Fin.ext (by
    show 512 * (t.val % 4) + (b.val * 256 + p.val) = 256 * (2 * (t.val % 4) + b.val) + p.val
    omega)

theorem block4 (t : Fin cfg0.N) (y : S1x2x512x256.Idx) :
    out0_4 (F := Ideal) (iblk m c 0 t) (iblk m c 1 t) y = G4 m c (((cfg0.win 4).blk t).view.emb y) := by
  rw [left4, emb4]
  refine (proj_apply m c t _ _).trans ?_
  exact congrArg (fun s => proj (x0 m c) (x1 m c) (seqOf t) s _) (pos_half t (y 1) (y 3))

theorem block5 (t : Fin cfg0.N) (y : S1x2x1x512.Idx) :
    out0_5 (F := Ideal) (iblk m c 0 t) (iblk m c 1 t) y = G5 m c (((cfg0.win 5).blk t).view.emb y) := by
  rw [left5, emb5]
  refine congrArg (Ideal.div · len) (Finset.sum_congr rfl fun p _ => ?_)
  refine (proj_apply m c t _ _).trans ?_
  exact congrArg (fun s => proj (x0 m c) (x1 m c) (seqOf t) s _) (pos_half t (y 1) p)

theorem final2 : (dats m 0 c).arrAt 2 cfg0.N = G2 m c := by
  refine (dats m 0 c).arrAt_eq_of_cover 2 _ (fun t _ => ?_) (fun i => ?_)
  · rw [Value.flushed2]
    funext y
    exact block2 m c t y
  · have h0 : (i 0).val < 8 := (i 0).isLt
    have h1 : (i 1).val < 2048 := (i 1).isLt
    have ht : 4 * (i 0).val + (i 1).val / 512 < cfg0.N := by show _ < 32; omega
    refine ⟨⟨_, ht⟩, flush2 _, Finset.mem_map.mpr ⟨(ix3 0 ⟨(i 1).val % 512, Nat.mod_lt _ (by decide)⟩ (i 2) : S1x512x512.Idx), Finset.mem_univ _, ?_⟩⟩
    refine (emb2 _ _).trans (funext fun a => Fin.ext ?_)
    match a with
    | ⟨0, _⟩ => show (4 * (i 0).val + (i 1).val / 512) / 4 = (i 0).val; omega
    | ⟨1, _⟩ => show 512 * ((4 * (i 0).val + (i 1).val / 512) % 4) + (i 1).val % 512 = (i 1).val; omega
    | ⟨2, _⟩ => rfl

theorem final3 : (dats m 0 c).arrAt 3 cfg0.N = G3 m c := by
  refine (dats m 0 c).arrAt_eq_of_cover 3 _ (fun t _ => ?_) (fun i => ?_)
  · rw [Value.flushed3]
    funext y
    exact block3 m c t y
  · have h0 : (i 0).val < 8 := (i 0).isLt
    have h1 : (i 1).val < 2048 := (i 1).isLt
    have ht : 4 * (i 0).val + (i 1).val / 512 < cfg0.N := by show _ < 32; omega
    refine ⟨⟨_, ht⟩, flush3 _, Finset.mem_map.mpr ⟨(ix3 0 ⟨(i 1).val % 512, Nat.mod_lt _ (by decide)⟩ (i 2) : S1x512x512.Idx), Finset.mem_univ _, ?_⟩⟩
    refine (emb3 _ _).trans (funext fun a => Fin.ext ?_)
    match a with
    | ⟨0, _⟩ => show (4 * (i 0).val + (i 1).val / 512) / 4 = (i 0).val; omega
    | ⟨1, _⟩ => show 512 * ((4 * (i 0).val + (i 1).val / 512) % 4) + (i 1).val % 512 = (i 1).val; omega
    | ⟨2, _⟩ => rfl

theorem final4 : (dats m 0 c).arrAt 4 cfg0.N = G4 m c := by
  refine (dats m 0 c).arrAt_eq_of_cover 4 _ (fun t _ => ?_) (fun i => ?_)
  · rw [Value.flushed4]
    funext y
    exact block4 m c t y
  · have h0 : (i 0).val < 8 := (i 0).isLt
    have h1 : (i 1).val < 8 := (i 1).isLt
    have ht : 4 * (i 0).val + (i 1).val / 2 < cfg0.N := by show _ < 32; omega
    refine ⟨⟨_, ht⟩, flush4 _, Finset.mem_map.mpr ⟨(ix4 0 ⟨(i 1).val % 2, Nat.mod_lt _ (by decide)⟩ (i 2) (i 3) : S1x2x512x256.Idx), Finset.mem_univ _, ?_⟩⟩
    refine (emb4 _ _).trans (funext fun a => Fin.ext ?_)
    match a with
    | ⟨0, _⟩ => show (4 * (i 0).val + (i 1).val / 2) / 4 = (i 0).val; omega
    | ⟨1, _⟩ => show 2 * ((4 * (i 0).val + (i 1).val / 2) % 4) + (i 1).val % 2 = (i 1).val; omega
    | ⟨2, _⟩ => rfl
    | ⟨3, _⟩ => rfl

theorem final5 : (dats m 0 c).arrAt 5 cfg0.N = G5 m c := by
  refine (dats m 0 c).arrAt_eq_of_cover 5 _ (fun t _ => ?_) (fun i => ?_)
  · rw [Value.flushed5]
    funext y
    exact block5 m c t y
  · have h0 : (i 0).val < 8 := (i 0).isLt
    have h1 : (i 1).val < 8 := (i 1).isLt
    have ht : 4 * (i 0).val + (i 1).val / 2 < cfg0.N := by show _ < 32; omega
    refine ⟨⟨_, ht⟩, flush5 _, Finset.mem_map.mpr ⟨(ix4 0 ⟨(i 1).val % 2, Nat.mod_lt _ (by decide)⟩ (i 2) (i 3) : S1x2x1x512.Idx), Finset.mem_univ _, ?_⟩⟩
    refine (emb5 _ _).trans (funext fun a => Fin.ext ?_)
    match a with
    | ⟨0, _⟩ => show (4 * (i 0).val + (i 1).val / 2) / 4 = (i 0).val; omega
    | ⟨1, _⟩ => show 2 * ((4 * (i 0).val + (i 1).val / 2) % 4) + (i 1).val % 2 = (i 1).val; omega
    | ⟨2, _⟩ => rfl
    | ⟨3, _⟩ => rfl

end Cert.QkvIdeal.Kernel

end
-- ==== Proof.Qkv.Ref.lean ====
/-
  The reference for the projections, read at an index.
-/
module

public import proofs.«01_k».proof.Proof.Gen.QkvRefIdeal.Read
public import proofs.«01_k».proof.Proof.Qkv.Math

@[expose] public section

set_option maxRecDepth 16384

noncomputable section

namespace Cert.QkvRefIdeal.Ref

open Cert.QkvRefIdeal Cert.QkvRefIdeal.Gen Idealize.ShloMosaic
open Cert.QkvRefIdeal.Read Cert.QkvMath

variable (x0 : FVec Ideal S8x2048x1024 .f32) (x1 : FVec Ideal S1x1024x2560 .f32)

theorem idx3 {a b c : ℕ} (f : (⟨3, ![a, b, c]⟩ : Shape).Idx) (i : Fin a) (j : Fin b) (k : Fin c)
    (hi : (f 0).val = i.val) (hj : (f 1).val = j.val) (hk : (f 2).val = k.val) : f = ix3 i j k := by
  funext q
  match q with
  | ⟨0, _⟩ => exact Fin.ext hi
  | ⟨1, _⟩ => exact Fin.ext hj
  | ⟨2, _⟩ => exact Fin.ext hk

theorem weight_row (d : Fin 1024) (j : Fin 512) : (d.val * 512 + j.val) / 512 % 1024 = d.val := by omega
theorem weight_col (d : Fin 1024) (j : Fin 512) : (d.val * 512 + j.val) % 512 = j.val := by omega

theorem q_eq (n : Fin 8) (s : Fin 2048) (j : Fin 512) :
    val_main_v2 (F := Ideal) x0 x1 (ix3 n s j) = proj x0 x1 n s ⟨j.val, by omega⟩ := by
  rw [val_main_v2_apply]
  unfold proj
  refine Finset.sum_congr rfl fun d _ => congrArg₂ (· * ·) (congrArg x0 (idx3 _ _ _ _ rfl rfl rfl)) ?_
  rw [val_main_v1_apply, val_main_v0_apply]
  refine congrArg x1 (idx3 _ _ _ _ ?_ ?_ ?_)
  · rfl
  · exact weight_row d j
  · exact weight_col d j

theorem k_eq (n : Fin 8) (s : Fin 2048) (j : Fin 512) :
    val_main_v5 (F := Ideal) x0 x1 (ix3 n s j) = key x0 x1 n s j := by
  rw [val_main_v5_apply]
  unfold key proj
  refine Finset.sum_congr rfl fun d _ => congrArg₂ (· * ·) (congrArg x0 (idx3 _ _ _ _ rfl rfl rfl)) ?_
  rw [val_main_v4_apply, val_main_v3_apply]
  refine congrArg x1 (idx3 _ _ _ _ ?_ ?_ ?_)
  · rfl
  · exact weight_row d j
  · exact (congrArg (512 + ·) (weight_col d j))

theorem v_eq (n : Fin 8) (s : Fin 2048) (j : Fin 512) :
    val_main_v8 (F := Ideal) x0 x1 (ix3 n s j) = proj x0 x1 n s ⟨1024 + j.val, by omega⟩ := by
  rw [val_main_v8_apply]
  unfold proj
  refine Finset.sum_congr rfl fun d _ => congrArg₂ (· * ·) (congrArg x0 (idx3 _ _ _ _ rfl rfl rfl)) ?_
  rw [val_main_v7_apply, val_main_v6_apply]
  refine congrArg x1 (idx3 _ _ _ _ ?_ ?_ ?_)
  · rfl
  · exact weight_row d j
  · exact (congrArg (1024 + ·) (weight_col d j))

theorem query_eq (n : Fin 8) (s : Fin 2048) (j : Fin 512) :
    val_main_v17 (F := Ideal) x0 x1 (ix3 n s j) = query x0 x1 n s j := by
  unfold query
  rw [← q_eq]
  generalize hy : val_main_v2 (F := Ideal) x0 x1 = y
  pointwise [val_main_v17, val_main_v16, val_main_v15, val_main_cst, val_main_cst_0, val_main_cst_1]
  simp only [hy]

theorem key_eq (n : Fin 8) (s : Fin 2048) (j : Fin 512) :
    val_main_v18 (F := Ideal) x0 x1 (ix3 n s j) = key x0 x1 n s j := by
  rw [← k_eq]
  rfl

theorem blocks (y : FVec Ideal S8x2048x512 .f32) (n b : Fin 8) (p : Fin 256) (j : Fin 512) :
    shapeCast S8x8x256x512 y shapeCasts_S8x2048x512_S8x8x256x512 (ix4 n b p j)
      = y (ix3 n ⟨256 * b.val + p.val, by omega⟩ j) := by
  refine shapeCast_apply _ _ _ (ix3 n ⟨256 * b.val + p.val, by omega⟩ j) ?_
  rw [Shape.rowMajor_val_three, Shape.rowMajor_val_four]
  show (n.val * 2048 + (256 * b.val + p.val)) * 512 + j.val = ((n.val * 8 + b.val) * 256 + p.val) * 512 + j.val
  omega

theorem value_eq (n b : Fin 8) (j : Fin 512) (p : Fin 256) :
    val_main_v20 (F := Ideal) x0 x1 (ix4 n b j p) = value x0 x1 n b j p := by
  unfold value
  rw [← v_eq, ← blocks (val_main_v8 (F := Ideal) x0 x1)]
  show val_main_v19 (F := Ideal) x0 x1 (ix4 n b j p) = _
  rw [val_main_v19_apply]
  unfold val_main_v10
  refine congrArg _ ?_
  funext q
  match q with
  | ⟨0, _⟩ => rfl
  | ⟨1, _⟩ => rfl
  | ⟨2, _⟩ => rfl
  | ⟨3, _⟩ => rfl

theorem keyMean_eq (n b : Fin 8) (u : Fin 1) (j : Fin 512) :
    val_main_v14 (F := Ideal) x0 x1 (ix4 n b u j) = keyMean x0 x1 n b j := by
  unfold keyMean
  simp only [← k_eq, ← blocks (val_main_v5 (F := Ideal) x0 x1)]
  have hz : val_main_v9 (F := Ideal) x0 x1
      = shapeCast S8x8x256x512 (val_main_v5 (F := Ideal) x0 x1) shapeCasts_S8x2048x512_S8x8x256x512 := rfl
  rw [← hz]
  generalize hy : val_main_v9 (F := Ideal) x0 x1 = y
  pointwise [val_main_v14, val_main_v13, val_main_v12, val_main_v11, val_main_cst, val_main_cst_0, val_main_cst_1]
  simp only [hy]

end Cert.QkvRefIdeal.Ref

end
-- ==== Proof.Qkv.Value.lean ====
/-
  The projection kernel and its reference leave the same four arrays: each is the same function of the arguments.
-/
module

public import proofs.«01_k».proof.Defs
public import proofs.«01_k».proof.Proof.Qkv.Kernel
public import proofs.«01_k».proof.Proof.Qkv.Ref
public import proofs.«01_k».proof.Proof.Gen.QkvRefIdeal.Run

@[expose] public section

set_option maxRecDepth 16384

noncomputable section

namespace Cert.QkvValue

open Idealize.ShloMosaic Idealize.SL.Sem Cert.QkvMath

theorem query_congr {x x' : FVec Ideal SX .f32} {w w' : FVec Ideal SW .f32} (hx : x' = x) (hw : w' = w)
    (n : Fin 8) (s : Fin 2048) (j : Fin 512) : query x' w' n s j = query x w n s j := by rw [hx, hw]
theorem key_congr {x x' : FVec Ideal SX .f32} {w w' : FVec Ideal SW .f32} (hx : x' = x) (hw : w' = w)
    (n : Fin 8) (s : Fin 2048) (j : Fin 512) : key x' w' n s j = key x w n s j := by rw [hx, hw]
theorem value_congr {x x' : FVec Ideal SX .f32} {w w' : FVec Ideal SW .f32} (hx : x' = x) (hw : w' = w)
    (n b : Fin 8) (j : Fin 512) (p : Fin 256) : value x' w' n b j p = value x w n b j p := by rw [hx, hw]
theorem keyMean_congr {x x' : FVec Ideal SX .f32} {w w' : FVec Ideal SW .f32} (hx : x' = x) (hw : w' = w)
    (n b : Fin 8) (j : Fin 512) : keyMean x' w' n b j = keyMean x w n b j := by rw [hx, hw]

theorem at3 (i : Cert.QkvRefIdeal.S8x2048x512.Idx) : i = ix3 (i 0) (i 1) (i 2) := by
  funext a
  match a with
  | ⟨0, _⟩ => rfl
  | ⟨1, _⟩ => rfl
  | ⟨2, _⟩ => rfl

theorem at4 {a b c d : ℕ} (i : (⟨4, ![a, b, c, d]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

theorem algebraic : Cert.algebraic_QkvIdeal_QkvRefIdeal (hQkvIdeal := Cert.QkvIdeal.Gen.facts)
    (hQkvRefIdeal := Cert.QkvRefIdeal.Gen.facts) := by
  intro m g m' g' _ hargs
  refine ⟨fun c => Cert.QkvIdeal.Kernel.G2 m c, fun c => Cert.QkvIdeal.Kernel.G3 m c,
    fun c => Cert.QkvIdeal.Kernel.G4 m c, fun c => Cert.QkvIdeal.Kernel.G5 m c, ?_, ?_⟩
  · refine θ_run_mono (Cert.QkvIdeal.Value.run_blocks m g) (fun r h c => ?_)
    obtain ⟨r2, r3, r4, r5, hkept⟩ := h c
    exact ⟨r2.trans (Cert.QkvIdeal.Kernel.final2 m c), r3.trans (Cert.QkvIdeal.Kernel.final3 m c),
      r4.trans (Cert.QkvIdeal.Kernel.final4 m c), r5.trans (Cert.QkvIdeal.Kernel.final5 m c), hkept⟩
  refine θ_run_mono (Cert.QkvRefIdeal.Value.run m' g') (fun r h c => ?_)
  obtain ⟨r2, r3, r4, r5, hkept⟩ := h c
  obtain ⟨h0, h1⟩ := hargs c
  refine ⟨r2.trans ?_, r3.trans ?_, r4.trans ?_, r5.trans ?_, hkept⟩
  · refine (Cert.QkvRefIdeal.Read.val_main_v17_eq (F := Ideal) _ _).trans (funext fun i => ?_)
    rw [at3 i]
    exact (Cert.QkvRefIdeal.Ref.query_eq _ _ _ _ _).trans (query_congr h0 h1 _ _ _)
  · refine (Cert.QkvRefIdeal.Read.val_main_v18_eq (F := Ideal) _ _).trans (funext fun i => ?_)
    rw [at3 i]
    exact (Cert.QkvRefIdeal.Ref.key_eq _ _ _ _ _).trans (key_congr h0 h1 _ _ _)
  · refine (Cert.QkvRefIdeal.Read.val_main_v20_eq (F := Ideal) _ _).trans (funext fun i => ?_)
    rw [at4 i]
    exact (Cert.QkvRefIdeal.Ref.value_eq _ _ _ _ _ _).trans (value_congr h0 h1 _ _ _ _)
  · refine (Cert.QkvRefIdeal.Read.val_main_v14_eq (F := Ideal) _ _).trans (funext fun i => ?_)
    rw [at4 i]
    exact (Cert.QkvRefIdeal.Ref.keyMean_eq _ _ _ _ _ _).trans (keyMean_congr h0 h1 _ _ _)

end Cert.QkvValue

end
-- ==== Proof.lean ====
/-
  The certificate: the frames and the value claims of the three calls.
-/
module

public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Qkv.Frame
public import proofs.«01_k».proof.Proof.Gen.LruRefIdeal.Run
public import proofs.«01_k».proof.Proof.Gen.LruRefIdeal.Step
public import proofs.«01_k».proof.Proof.Gen.Lru.Loops
public import proofs.«01_k».proof.Proof.Gen.LruIdeal.Loops
public import proofs.«01_k».proof.Proof.Gen.Lru.Frame
public import proofs.«01_k».proof.Proof.Gen.LruIdeal.Frame
public import proofs.«01_k».proof.Defs
public import proofs.«01_k».proof.Proof.Mlp.Value
public import proofs.«01_k».proof.Proof.Lru.Value
public import proofs.«01_k».proof.Proof.LruBits.Frame
public import proofs.«01_k».proof.Proof.Qkv.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import Idealize.ShloMosaic.Adequacy
public import Idealize.ShloMosaic.Init

@[expose] public section

noncomputable section

namespace Cert.Proof

open Idealize.ShloMosaic Idealize.SL.Sem Cert.Mlp

theorem claim : Cert.Claim :=
  ⟨Cert.Mlp.Gen.facts, Cert.MlpIdeal.Gen.facts, Cert.MlpRefIdeal.Gen.facts,
    Cert.Lru.Gen.facts, Cert.LruIdeal.Gen.facts, Cert.LruRefIdeal.Gen.facts,
    Cert.Qkv.Gen.facts, Cert.QkvIdeal.Gen.facts, Cert.QkvRefIdeal.Gen.facts,
    fun m ρ _ => Cert.Mlp.Gen.frame m ρ, fun m ρ _ => Cert.MlpIdeal.Gen.frame m ρ,
    fun m ρ _ => θ_run_mono (Cert.MlpRefIdeal.Value.run m ρ) fun r h =>
      ⟨fun c => (h c).2, sem_eq_zero_of_no_sems (by decide) r.2⟩,
    fun m ρ _ => Cert.Lru.Body.frame m ρ, fun m ρ _ => Cert.LruIdeal.Body.frame m ρ,
    fun m ρ _ => θ_run_mono (Cert.LruRefIdeal.Value.run m ρ) fun r h =>
      ⟨fun c => (h c).2, sem_eq_zero_of_no_sems (by decide) r.2⟩,
    fun m ρ _ => Cert.Qkv.Gen.frame m ρ, fun m ρ _ => Cert.QkvIdeal.Gen.frame m ρ,
    fun m ρ _ => θ_run_mono (Cert.QkvRefIdeal.Value.run m ρ) fun r h =>
      ⟨fun c => (h c).2.2.2.2, sem_eq_zero_of_no_sems (by decide) r.2⟩,
    trivial, Cert.MlpValue.algebraic, trivial, Cert.LruValue.algebraic, trivial, Cert.QkvValue.algebraic⟩

end Cert.Proof

end
